-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S511x128x1024 : Shape := ⟨3, ![511, 128, 1024]⟩
abbrev S64x128 : Shape := ⟨2, ![64, 128]⟩
abbrev S128 : Shape := ⟨1, ![128]⟩
abbrev S_ : Shape := ⟨0, ![]⟩

class Facts : Prop where
  bcast_S_S511x128x1024 : S_.BroadcastsInDim S511x128x1024 (![] : Fin 0 → Fin S511x128x1024.rank)
  bcast_S_S64x128 : S_.BroadcastsInDim S64x128 (![] : Fin 0 → Fin S64x128.rank)
  bcast_S_S128 : S_.BroadcastsInDim S128 (![] : Fin 0 → Fin S128.rank)

variable [Facts]

def fn {F : FTy → Type} [FloatOps F] (main_arg0 : FVec F S511x128x1024 .f32) (main_arg1 : IVec S64x128 32) (main_arg2 : IVec S128 32) : IVec S511x128x1024 1 × IVec S64x128 1 × IVec S128 1 :=
  let main_cst : FVec F S_ .f32 := constant S_ .f32 0x7F800000#32
  let main_v0 : FVec F S511x128x1024 .f32 := broadcastInDim S511x128x1024 ![] bcast_S_S511x128x1024 main_cst
  let main_v1 : IVec S511x128x1024 1 := cmpf .olt main_arg0 main_v0
  let main_c : IVec S_ 32 := constantI S_ 32 0#32
  let main_v2 : IVec S64x128 32 := broadcastInDim S64x128 ![] bcast_S_S64x128 main_c
  let main_v3 : IVec S64x128 1 := cmpi .sge main_arg1 main_v2
  let main_c_0 : IVec S_ 32 := constantI S_ 32 1024#32
  let main_v4 : IVec S64x128 32 := broadcastInDim S64x128 ![] bcast_S_S64x128 main_c_0
  let main_v5 : IVec S64x128 1 := cmpi .slt main_arg1 main_v4
  let main_v6 : IVec S64x128 1 := andi main_v3 main_v5
  let main_c_1 : IVec S_ 32 := constantI S_ 32 64#32
  let main_v7 : IVec S128 32 := broadcastInDim S128 ![] bcast_S_S128 main_c_1
  let main_v8 : IVec S128 1 := cmpi .sle main_arg2 main_v7
  (main_v1, main_v6, main_v8)
-- ==== Kernel.lean ====
abbrev S511x128x1024 : Shape := ⟨3, ![511, 128, 1024]⟩
abbrev S64x128 : Shape := ⟨2, ![64, 128]⟩
abbrev S128 : Shape := ⟨1, ![128]⟩
abbrev S1434 : Shape := ⟨1, ![1434]⟩
abbrev S8x512 : Shape := ⟨2, ![8, 512]⟩
abbrev S128x64 : Shape := ⟨2, ![128, 64]⟩
abbrev S16x8x64 : Shape := ⟨3, ![16, 8, 64]⟩
abbrev S64x128x512 : Shape := ⟨3, ![64, 128, 512]⟩
abbrev S1x8x64 : Shape := ⟨3, ![1, 8, 64]⟩
abbrev S128x8x1024 : Shape := ⟨3, ![128, 8, 1024]⟩
abbrev S64x8x128 : Shape := ⟨3, ![64, 8, 128]⟩
abbrev S64x1024 : Shape := ⟨2, ![64, 1024]⟩
abbrev S1x1x64 : Shape := ⟨3, ![1, 1, 64]⟩
abbrev S64 : Shape := ⟨1, ![64]⟩
abbrev S64x1 : Shape := ⟨2, ![64, 1]⟩
abbrev S128x1x1024 : Shape := ⟨3, ![128, 1, 1024]⟩
abbrev S128x1024 : Shape := ⟨2, ![128, 1024]⟩
abbrev S64x1x128 : Shape := ⟨3, ![64, 1, 128]⟩
abbrev S_ : Shape := ⟨0, ![]⟩
abbrev S512x512 : Shape := ⟨2, ![512, 512]⟩
abbrev S1434x1 : Shape := ⟨2, ![1434, 1]⟩
abbrev S1434x2 : Shape := ⟨2, ![1434, 2]⟩
abbrev S128x1 : Shape := ⟨2, ![128, 1]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 30
  | .vmem => 12
  | .smem => 0
  | _ => 0

abbrev bufTy : (tb : Table) → Fin (tcTables nBuf tb) → BufTy
  | .hbm, ⟨0, _⟩ => ⟨S511x128x1024, .f32⟩
  | .hbm, ⟨1, _⟩ => ⟨S64x128, .i32⟩
  | .hbm, ⟨2, _⟩ => ⟨S128, .i32⟩
  | .hbm, ⟨3, _⟩ => ⟨S1434, .i32⟩
  | .hbm, ⟨4, _⟩ => ⟨S1434, .i1⟩
  | .hbm, ⟨5, _⟩ => ⟨S1434, .i32⟩
  | .hbm, ⟨6, _⟩ => ⟨S1434, .i1⟩
  | .hbm, ⟨7, _⟩ => ⟨S8x512, .f32⟩
  | .hbm, ⟨8, _⟩ => ⟨S128x64, .i32⟩
  | .hbm, ⟨9, _⟩ => ⟨S16x8x64, .i32⟩
  | .hbm, ⟨10, _⟩ => ⟨S64x128x512, .f32⟩
  | .hbm, ⟨11, _⟩ => ⟨S_, .f32⟩
  | .hbm, ⟨12, _⟩ => ⟨S512x512, .f32⟩
  | .hbm, ⟨13, _⟩ => ⟨S_, .i32⟩
  | .hbm, ⟨14, _⟩ => ⟨S1434, .i32⟩
  | .hbm, ⟨15, _⟩ => ⟨S1434, .i32⟩
  | .hbm, ⟨16, _⟩ => ⟨S1434, .i32⟩
  | .hbm, ⟨17, _⟩ => ⟨S_, .i32⟩
  | .hbm, ⟨18, _⟩ => ⟨S1434, .i32⟩
  | .hbm, ⟨19, _⟩ => ⟨S1434, .i32⟩
  | .hbm, ⟨20, _⟩ => ⟨S1434, .i32⟩
  | .hbm, ⟨21, _⟩ => ⟨S1434x1, .i32⟩
  | .hbm, ⟨22, _⟩ => ⟨S1434x1, .i32⟩
  | .hbm, ⟨23, _⟩ => ⟨S1434x2, .i32⟩
  | .hbm, ⟨24, _⟩ => ⟨S_, .f32⟩
  | .hbm, ⟨25, _⟩ => ⟨S1434, .f32⟩
  | .hbm, ⟨26, _⟩ => ⟨S512x512, .f32⟩
  | .hbm, ⟨27, _⟩ => ⟨S128x1, .i32⟩
  | .hbm, ⟨28, _⟩ => ⟨S128x1, .f32⟩
  | .hbm, ⟨29, _⟩ => ⟨S128, .f32⟩
  | .local _ .vmem, ⟨0, _⟩ => ⟨S1x8x64, .i32⟩
  | .local _ .vmem, ⟨1, _⟩ => ⟨S1x8x64, .i32⟩
  | .local _ .vmem, ⟨2, _⟩ => ⟨S128x8x1024, .f32⟩
  | .local _ .vmem, ⟨3, _⟩ => ⟨S128x8x1024, .f32⟩
  | .local _ .vmem, ⟨4, _⟩ => ⟨S64x8x128, .f32⟩
  | .local _ .vmem, ⟨5, _⟩ => ⟨S64x8x128, .f32⟩
  | .local _ .vmem, ⟨6, _⟩ => ⟨S64x128x512, .f32⟩
  | .local _ .vmem, ⟨7, _⟩ => ⟨S512x512, .f32⟩
  | .local _ .vmem, ⟨8, _⟩ => ⟨S8x512, .f32⟩
  | .local _ .vmem, ⟨9, _⟩ => ⟨S128x1, .i32⟩
  | .local _ .vmem, ⟨10, _⟩ => ⟨S128x1, .f32⟩
  | .local _ .vmem, ⟨11, _⟩ => ⟨S128x512, .f32⟩
  | _, _ => ⟨S511x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_3 : Ref sig .tc := ⟨.hbm, 11, rfl⟩
abbrev main_v3 : Ref sig .tc := ⟨.hbm, 12, rfl⟩
abbrev main_c_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x8x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

@[reducible] def k1_t1_loop : Scf.Loop 32 :=
  let c0_i32 : BitVec 32 := 0#32
  let c64_i32 : BitVec 32 := 64#32
  let v18 : BitVec 32 := Scalar.addi c0_i32 c64_i32
  let c1_i32 : BitVec 32 := 1#32
  ⟨c0_i32, v18, c1_i32⟩
def k1_off1 (k1_t1 : Fin k1_t1_loop.trips) : Fin 3 → Nat :=
  let c0_i32 : BitVec 32 := 0#32
  let c1_i32 : BitVec 32 := 1#32
  let arg6 : BitVec 32 := Scf.iv c0_i32 c1_i32 k1_t1
  let v24 : Index := Scalar.indexCast arg6
  let c0_18 : Index := 0#32
  let c0_19 : Index := 0#32
  ![v24.toNat, 0, 0]
abbrev stage1_0 : Fin 1 → Memref sig .tc .vmem S64x128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S511x128x1024 : Shape := ⟨3, ![511, 128, 1024]⟩
abbrev S64x128 : Shape := ⟨2, ![64, 128]⟩
abbrev S128 : Shape := ⟨1, ![128]⟩
abbrev S9 : Shape := ⟨1, ![9]⟩
abbrev S502 : Shape := ⟨1, ![502]⟩
abbrev S1434 : Shape := ⟨1, ![1434]⟩
abbrev S128x1 : Shape := ⟨2, ![128, 1]⟩
abbrev S128x64 : Shape := ⟨2, ![128, 64]⟩
abbrev S_ : Shape := ⟨0, ![]⟩
abbrev S128x64x1 : Shape := ⟨3, ![128, 64, 1]⟩
abbrev S128x64x2 : Shape := ⟨3, ![128, 64, 2]⟩
abbrev S511x128x64 : Shape := ⟨3, ![511, 128, 64]⟩
abbrev S64x128x511 : Shape := ⟨3, ![64, 128, 511]⟩
abbrev S128x511 : Shape := ⟨2, ![128, 511]⟩
abbrev S9x1 : Shape := ⟨2, ![9, 1]⟩
abbrev S128x9 : Shape := ⟨2, ![128, 9]⟩
abbrev S1x128x511 : Shape := ⟨3, ![1, 128, 511]⟩
abbrev S502x1 : Shape := ⟨2, ![502, 1]⟩
abbrev S128x502 : Shape := ⟨2, ![128, 502]⟩
abbrev S1434x1 : Shape := ⟨2, ![1434, 1]⟩
abbrev S128x1434 : Shape := ⟨2, ![128, 1434]⟩

abbrev nBuf : Space → Nat
  | .hbm => 214
  | .vmem => 0
  | .smem => 0
  | _ => 0

abbrev hbmTy0_0 (i : Nat) : BufTy := match i % 128 with
  | 0 => ⟨S511x128x1024, .f32⟩
  | 1 => ⟨S64x128, .i32⟩
  | 2 => ⟨S128, .i32⟩
  | 3 => ⟨S9, .i32⟩
  | 4 => ⟨S9, .i1⟩
  | 5 => ⟨S502, .i32⟩
  | 6 => ⟨S502, .i1⟩
  | 7 => ⟨S1434, .i32⟩
  | 8 => ⟨S1434, .i1⟩
  | 9 => ⟨S9, .i32⟩
  | 10 => ⟨S9, .i1⟩
  | 11 => ⟨S1434, .i32⟩
  | 12 => ⟨S1434, .i1⟩
  | 13 => ⟨S128, .i32⟩
  | 14 => ⟨S128x1, .i32⟩
  | 15 => ⟨S128x64, .i32⟩
  | 16 => ⟨S_, .i32⟩
  | 17 => ⟨S128x1, .i32⟩
  | 18 => ⟨S128x1, .i1⟩
  | 19 => ⟨S_, .i32⟩
  | 20 => ⟨S128x1, .i32⟩
  | 21 => ⟨S128x1, .i32⟩
  | 22 => ⟨S128x1, .i32⟩
  | 23 => ⟨S_, .i32⟩
  | 24 => ⟨S128x64, .i32⟩
  | 25 => ⟨S128x64, .i1⟩
  | 26 => ⟨S_, .i32⟩
  | 27 => ⟨S128x64, .i32⟩
  | 28 => ⟨S128x64, .i32⟩
  | 29 => ⟨S128x64, .i32⟩
  | 30 => ⟨S128x64, .i32⟩
  | 31 => ⟨S128x64x1, .i32⟩
  | 32 => ⟨S128x64x1, .i32⟩
  | 33 => ⟨S128x64x2, .i32⟩
  | 34 => ⟨S511x128x64, .f32⟩
  | 35 => ⟨S64x128x511, .f32⟩
  | 36 => ⟨S_, .f32⟩
  | 37 => ⟨S128x511, .f32⟩
  | 38 => ⟨S_, .i32⟩
  | 39 => ⟨S9, .i32⟩
  | 40 => ⟨S9, .i32⟩
  | 41 => ⟨S9, .i32⟩
  | 42 => ⟨S9x1, .i32⟩
  | 43 => ⟨S_, .f32⟩
  | 44 => ⟨S128x9, .f32⟩
  | 45 => ⟨S128x511, .f32⟩
  | 46 => ⟨S_, .f32⟩
  | 47 => ⟨S128, .f32⟩
  | 48 => ⟨S_, .i32⟩
  | 49 => ⟨S_, .i32⟩
  | 50 => ⟨S64x128x511, .f32⟩
  | 51 => ⟨S502, .i32⟩
  | 52 => ⟨S502, .i1⟩
  | 53 => ⟨S1434, .i32⟩
  | 54 => ⟨S1434, .i1⟩
  | 55 => ⟨S128, .i32⟩
  | 56 => ⟨S9, .i32⟩
  | 57 => ⟨S9, .i1⟩
  | 58 => ⟨S1434, .i32⟩
  | 59 => ⟨S1434, .i1⟩
  | 60 => ⟨S_, .i32⟩
  | 61 => ⟨S_, .i32⟩
  | 62 => ⟨S128, .f32⟩
  | 63 => ⟨S128x511, .f32⟩
  | 64 => ⟨S_, .i32⟩
  | 65 => ⟨S_, .i1⟩
  | 66 => ⟨S_, .i32⟩
  | 67 => ⟨S_, .i32⟩
  | 68 => ⟨S_, .f32⟩
  | 69 => ⟨S128x511, .f32⟩
  | 70 => ⟨S128x511, .i1⟩
  | 71 => ⟨S_, .f32⟩
  | 72 => ⟨S_, .f32⟩
  | 73 => ⟨S128x511, .f32⟩
  | 74 => ⟨S128x511, .f32⟩
  | 75 => ⟨S128x511, .f32⟩
  | 76 => ⟨S_, .f32⟩
  | 77 => ⟨S_, .f32⟩
  | 78 => ⟨S128x511, .f32⟩
  | 79 => ⟨S128x511, .f32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x128x511, .f32⟩
  | 103 => ⟨S128x511, .f32⟩
  | 104 => ⟨S128x511, .f32⟩
  | 105 => ⟨S_, .i32⟩
  | 106 => ⟨S502, .i32⟩
  | 107 => ⟨S502, .i32⟩
  | 108 => ⟨S502, .i32⟩
  | 109 => ⟨S502x1, .i32⟩
  | 110 => ⟨S128x502, .f32⟩
  | 111 => ⟨S_, .f32⟩
  | 112 => ⟨S128, .f32⟩
  | 113 => ⟨S128x1, .f32⟩
  | 114 => ⟨S128x1, .f32⟩
  | 115 => ⟨S_, .f32⟩
  | 116 => ⟨S128x1, .f32⟩
  | 117 => ⟨S128x1, .i1⟩
  | 118 => ⟨S_, .f32⟩
  | 119 => ⟨S128x1, .f32⟩
  | 120 => ⟨S128x1, .f32⟩
  | 121 => ⟨S128x502, .f32⟩
  | 122 => ⟨S128x502, .f32⟩
  | 123 => ⟨S128x502, .f32⟩
  | 124 => ⟨S_, .f32⟩
  | 125 => ⟨S128, .f32⟩
  | 126 => ⟨S128x1, .f32⟩
  | 127 => ⟨S128x1, .f32⟩
  | _ => ⟨S511x128x1024, .f32⟩

abbrev hbmTy0_1 (i : Nat) : BufTy := match i % 128 with
  | 0 => ⟨S128x1, .f32⟩
  | 1 => ⟨S128x1, .f32⟩
  | 2 => ⟨S128x502, .f32⟩
  | 3 => ⟨S128x502, .f32⟩
  | 4 => ⟨S_, .f32⟩
  | 5 => ⟨S128x502, .f32⟩
  | 6 => ⟨S128x502, .i1⟩
  | 7 => ⟨S_, .f32⟩
  | 8 => ⟨S_, .f32⟩
  | 9 => ⟨S128x502, .f32⟩
  | 10 => ⟨S128x502, .f32⟩
  | 11 => ⟨S128x502, .f32⟩
  | 12 => ⟨S_, .f32⟩
  | 13 => ⟨S_, .f32⟩
  | 14 => ⟨S128x502, .f32⟩
  | 15 => ⟨S128x502, .f32⟩
  | 16 => ⟨S_, .i32⟩
  | 17 => ⟨S1434, .i32⟩
  | 18 => ⟨S1434, .i32⟩
  | 19 => ⟨S1434, .i32⟩
  | 20 => ⟨S1434x1, .i32⟩
  | 21 => ⟨S128x1434, .f32⟩
  | 22 => ⟨S_, .i32⟩
  | 23 => ⟨S_, .i32⟩
  | 24 => ⟨S_, .i32⟩
  | 25 => ⟨S128, .i32⟩
  | 26 => ⟨S128, .i1⟩
  | 27 => ⟨S_, .i32⟩
  | 28 => ⟨S9, .i32⟩
  | 29 => ⟨S9, .i32⟩
  | 30 => ⟨S9, .i32⟩
  | 31 => ⟨S9x1, .i32⟩
  | 32 => ⟨S128x9, .f32⟩
  | 33 => ⟨S_, .f32⟩
  | 34 => ⟨S128, .f32⟩
  | 35 => ⟨S128x1, .f32⟩
  | 36 => ⟨S128x1, .f32⟩
  | 37 => ⟨S_, .f32⟩
  | 38 => ⟨S128x1, .f32⟩
  | 39 => ⟨S128x1, .i1⟩
  | 40 => ⟨S_, .f32⟩
  | 41 => ⟨S128x1, .f32⟩
  | 42 => ⟨S128x1, .f32⟩
  | 43 => ⟨S128x9, .f32⟩
  | 44 => ⟨S128x9, .f32⟩
  | 45 => ⟨S128x9, .f32⟩
  | 46 => ⟨S_, .f32⟩
  | 47 => ⟨S128, .f32⟩
  | 48 => ⟨S128x1, .f32⟩
  | 49 => ⟨S128x1, .f32⟩
  | 50 => ⟨S128x1, .f32⟩
  | 51 => ⟨S128x1, .f32⟩
  | 52 => ⟨S128, .f32⟩
  | 53 => ⟨S_, .f32⟩
  | 54 => ⟨S128, .f32⟩
  | 55 => ⟨S128, .f32⟩
  | 56 => ⟨S128, .f32⟩
  | 57 => ⟨S_, .i32⟩
  | 58 => ⟨S_, .i32⟩
  | 59 => ⟨S_, .i32⟩
  | 60 => ⟨S128, .i32⟩
  | 61 => ⟨S128, .i1⟩
  | 62 => ⟨S_, .i32⟩
  | 63 => ⟨S_, .i1⟩
  | 64 => ⟨S_, .i1⟩
  | 65 => ⟨S_, .i1⟩
  | 66 => ⟨S_, .i1⟩
  | 67 => ⟨S_, .i1⟩
  | 68 => ⟨S128, .i1⟩
  | 69 => ⟨S128, .i1⟩
  | 70 => ⟨S128, .f32⟩
  | 71 => ⟨S_, .f32⟩
  | 72 => ⟨S128, .f32⟩
  | 73 => ⟨S128, .f32⟩
  | 74 => ⟨S128, .f32⟩
  | 75 => ⟨S_, .f32⟩
  | 76 => ⟨S128x511, .f32⟩
  | 77 => ⟨S_, .i32⟩
  | 78 => ⟨S1434, .i32⟩
  | 79 => ⟨S1434, .i32⟩
  | 80 => ⟨S1434, .i32⟩
  | 81 => ⟨S1434x1, .i32⟩
  | 82 => ⟨S128x511, .f32⟩
  | 83 => ⟨S_, .i32⟩
  | 84 => ⟨S_, .i32⟩
  | 85 => ⟨S128, .f32⟩
  | _ => ⟨S511x128x1024, .f32⟩

abbrev hbmTy (i : Nat) : BufTy := match i / 128 with
  | 0 => hbmTy0_0 i
  | 1 => hbmTy0_1 i
  | _ => ⟨S511x128x1024, .f32⟩

abbrev bufTy : (tb : Table) → Fin (tcTables nBuf tb) → BufTy
  | .hbm, ⟨i, _⟩ => hbmTy i
  | _, _ => ⟨S511x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_9 : Ref sig .tc := ⟨.hbm, 16, rfl⟩
abbrev main_v3 : Ref sig .tc := ⟨.hbm, 17, rfl⟩
abbrev main_v4 : Ref sig .tc := ⟨.hbm, 18, rfl⟩
abbrev main_c_10 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_11 : Ref sig .tc := ⟨.hbm, 23, rfl⟩
abbrev main_v8 : Ref sig .tc := ⟨.hbm, 24, rfl⟩
abbrev main_v9 : Ref sig .tc := ⟨.hbm, 25, rfl⟩
abbrev main_c_12 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_c_13 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_14 : Ref sig .tc := ⟨.hbm, 43, rfl⟩
abbrev main_v24 : Ref sig .tc := ⟨.hbm, 44, rfl⟩
abbrev main_v25 : Ref sig .tc := ⟨.hbm, 45, rfl⟩
abbrev main_cst_15 : Ref sig .tc := ⟨.hbm, 46, rfl⟩
abbrev main_v26 : Ref sig .tc := ⟨.hbm, 47, rfl⟩
abbrev main_c_16 : Ref sig .tc := ⟨.hbm, 48, rfl⟩
abbrev main_c_17 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_v27_3 : Ref sig .tc := ⟨.hbm, 53, rfl⟩
abbrev main_v27_4 : Ref sig .tc := ⟨.hbm, 54, rfl⟩
abbrev main_v27_5 : Ref sig .tc := ⟨.hbm, 55, rfl⟩
abbrev main_v27_6 : Ref sig .tc := ⟨.hbm, 56, rfl⟩
abbrev main_v27_7 : Ref sig .tc := ⟨.hbm, 57, rfl⟩
abbrev main_v27_8 : Ref sig .tc := ⟨.hbm, 58, rfl⟩
abbrev main_v27_9 : Ref sig .tc := ⟨.hbm, 59, rfl⟩
abbrev main_v27_10 : Ref sig .tc := ⟨.hbm, 60, rfl⟩
abbrev main_v27_11 : Ref sig .tc := ⟨.hbm, 61, rfl⟩
abbrev main_v27_12 : Ref sig .tc := ⟨.hbm, 62, rfl⟩
abbrev main_v27_13 : Ref sig .tc := ⟨.hbm, 63, rfl⟩
abbrev main_while0c_c_31 : Ref sig .tc := ⟨.hbm, 64, rfl⟩
abbrev main_while0c_v29 : Ref sig .tc := ⟨.hbm, 65, rfl⟩
abbrev main_while0b_c_31 : Ref sig .tc := ⟨.hbm, 66, rfl⟩
abbrev main_while0b_v29 : Ref sig .tc := ⟨.hbm, 67, rfl⟩
abbrev main_while0b_cst_32 : Ref sig .tc := ⟨.hbm, 68, rfl⟩
abbrev main_while0b_v30 : Ref sig .tc := ⟨.hbm, 69, rfl⟩
abbrev main_while0b_v31 : Ref sig .tc := ⟨.hbm, 70, rfl⟩
abbrev main_while0b_cst_33 : Ref sig .tc := ⟨.hbm, 71, rfl⟩
abbrev main_while0b_call0_v0 : Ref sig .tc := ⟨.hbm, 72, rfl⟩
abbrev main_while0b_call0_v1 : Ref sig .tc := ⟨.hbm, 73, rfl⟩
abbrev main_while0b_v32 : Ref sig .tc := ⟨.hbm, 74, rfl⟩
abbrev main_while0b_v33 : Ref sig .tc := ⟨.hbm, 75, rfl⟩
abbrev main_while0b_cst_34 : Ref sig .tc := ⟨.hbm, 76, rfl⟩
abbrev main_while0b_call1_v0 : Ref sig .tc := ⟨.hbm, 77, rfl⟩
abbrev main_while0b_call1_v1 : Ref sig .tc := ⟨.hbm, 78, rfl⟩
abbrev main_while0b_v34 : Ref sig .tc := ⟨.hbm, 79, rfl⟩
abbrev main_while0b_v35 : Ref sig .tc := ⟨.hbm, 80, rfl⟩
abbrev main_while0b_c_35 : Ref sig .tc := ⟨.hbm, 81, rfl⟩
abbrev main_while0b_v36 : Ref sig .tc := ⟨.hbm, 82, rfl⟩
abbrev main_while0b_c_36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_c_37 : Ref sig .tc := ⟨.hbm, 86, rfl⟩
abbrev main_while0b_c_38 : Ref sig .tc := ⟨.hbm, 87, rfl⟩
abbrev main_while0b_v39 : Ref sig .tc := ⟨.hbm, 88, rfl⟩
abbrev main_while0b_c_39 : Ref sig .tc := ⟨.hbm, 89, rfl⟩
abbrev main_while0b_c_40 : Ref sig .tc := ⟨.hbm, 90, rfl⟩
abbrev main_while0b_v40 : Ref sig .tc := ⟨.hbm, 91, rfl⟩
abbrev main_while0b_c_41 : Ref sig .tc := ⟨.hbm, 92, rfl⟩
abbrev main_while0b_v41 : Ref sig .tc := ⟨.hbm, 93, rfl⟩
abbrev main_while0b_c_42 : Ref sig .tc := ⟨.hbm, 94, rfl⟩
abbrev main_while0b_c_43 : Ref sig .tc := ⟨.hbm, 95, rfl⟩
abbrev main_while0b_v42 : Ref sig .tc := ⟨.hbm, 96, rfl⟩
abbrev main_while0b_c_44 : Ref sig .tc := ⟨.hbm, 97, rfl⟩
abbrev main_while0b_c_45 : Ref sig .tc := ⟨.hbm, 98, rfl⟩
abbrev main_while0b_v43 : Ref sig .tc := ⟨.hbm, 99, rfl⟩
abbrev main_while0b_c_46 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_c_47 : Ref sig .tc := ⟨.hbm, 105, rfl⟩
abbrev main_while0b_v48 : Ref sig .tc := ⟨.hbm, 106, rfl⟩
abbrev main_while0b_v49 : Ref sig .tc := ⟨.hbm, 107, rfl⟩
abbrev main_while0b_v50 : Ref sig .tc := ⟨.hbm, 108, rfl⟩
abbrev main_while0b_v51 : Ref sig .tc := ⟨.hbm, 109, rfl⟩
abbrev main_while0b_v52 : Ref sig .tc := ⟨.hbm, 110, rfl⟩
abbrev main_while0b_cst_48 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_cst_49 : Ref sig .tc := ⟨.hbm, 115, rfl⟩
abbrev main_while0b_v56 : Ref sig .tc := ⟨.hbm, 116, rfl⟩
abbrev main_while0b_v57 : Ref sig .tc := ⟨.hbm, 117, rfl⟩
abbrev main_while0b_cst_50 : Ref sig .tc := ⟨.hbm, 118, rfl⟩
abbrev main_while0b_call2_v0 : Ref sig .tc := ⟨.hbm, 119, rfl⟩
abbrev main_while0b_v58 : Ref sig .tc := ⟨.hbm, 120, rfl⟩
abbrev main_while0b_v59 : Ref sig .tc := ⟨.hbm, 121, rfl⟩
abbrev main_while0b_v60 : Ref sig .tc := ⟨.hbm, 122, rfl⟩
abbrev main_while0b_v61 : Ref sig .tc := ⟨.hbm, 123, rfl⟩
abbrev main_while0b_cst_51 : Ref sig .tc := ⟨.hbm, 124, rfl⟩
abbrev main_while0b_v62 : Ref sig .tc := ⟨.hbm, 125, rfl⟩
abbrev main_while0b_v63 : Ref sig .tc := ⟨.hbm, 126, rfl⟩
abbrev main_while0b_v64 : Ref sig .tc := ⟨.hbm, 127, rfl⟩
abbrev main_while0b_v65 : Ref sig .tc := ⟨.hbm, 128, rfl⟩
abbrev main_while0b_v66 : Ref sig .tc := ⟨.hbm, 129, rfl⟩
abbrev main_while0b_v67 : Ref sig .tc := ⟨.hbm, 130, rfl⟩
abbrev main_while0b_v68 : Ref sig .tc := ⟨.hbm, 131, rfl⟩
abbrev main_while0b_cst_52 : Ref sig .tc := ⟨.hbm, 132, rfl⟩
abbrev main_while0b_v69 : Ref sig .tc := ⟨.hbm, 133, rfl⟩
abbrev main_while0b_v70 : Ref sig .tc := ⟨.hbm, 134, rfl⟩
abbrev main_while0b_cst_53 : Ref sig .tc := ⟨.hbm, 135, rfl⟩
abbrev main_while0b_call3_v0 : Ref sig .tc := ⟨.hbm, 136, rfl⟩
abbrev main_while0b_call3_v1 : Ref sig .tc := ⟨.hbm, 137, rfl⟩
abbrev main_while0b_v71 : Ref sig .tc := ⟨.hbm, 138, rfl⟩
abbrev main_while0b_v72 : Ref sig .tc := ⟨.hbm, 139, rfl⟩
abbrev main_while0b_cst_54 : Ref sig .tc := ⟨.hbm, 140, rfl⟩
abbrev main_while0b_call4_v0 : Ref sig .tc := ⟨.hbm, 141, rfl⟩
abbrev main_while0b_call4_v1 : Ref sig .tc := ⟨.hbm, 142, rfl⟩
abbrev main_while0b_v73 : Ref sig .tc := ⟨.hbm, 143, rfl⟩
abbrev main_while0b_c_55 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_v78 : Ref sig .tc := ⟨.hbm, 149, rfl⟩
abbrev main_while0b_c_56 : Ref sig .tc := ⟨.hbm, 150, rfl⟩
abbrev main_while0b_v79 : Ref sig .tc := ⟨.hbm, 151, rfl⟩
abbrev main_while0b_v80 : Ref sig .tc := ⟨.hbm, 152, rfl⟩
abbrev main_while0b_v81 : Ref sig .tc := ⟨.hbm, 153, rfl⟩
abbrev main_while0b_v82 : Ref sig .tc := ⟨.hbm, 154, rfl⟩
abbrev main_while0b_c_57 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_cst_58 : Ref sig .tc := ⟨.hbm, 161, rfl⟩
abbrev main_while0b_v88 : Ref sig .tc := ⟨.hbm, 162, rfl⟩
abbrev main_while0b_v89 : Ref sig .tc := ⟨.hbm, 163, rfl⟩
abbrev main_while0b_v90 : Ref sig .tc := ⟨.hbm, 164, rfl⟩
abbrev main_while0b_cst_59 : Ref sig .tc := ⟨.hbm, 165, rfl⟩
abbrev main_while0b_v91 : Ref sig .tc := ⟨.hbm, 166, rfl⟩
abbrev main_while0b_v92 : Ref sig .tc := ⟨.hbm, 167, rfl⟩
abbrev main_while0b_cst_60 : Ref sig .tc := ⟨.hbm, 168, rfl⟩
abbrev main_while0b_call5_v0 : Ref sig .tc := ⟨.hbm, 169, rfl⟩
abbrev main_while0b_v93 : Ref sig .tc := ⟨.hbm, 170, rfl⟩
abbrev main_while0b_v94 : Ref sig .tc := ⟨.hbm, 171, rfl⟩
abbrev main_while0b_v95 : Ref sig .tc := ⟨.hbm, 172, rfl⟩
abbrev main_while0b_v96 : Ref sig .tc := ⟨.hbm, 173, rfl⟩
abbrev main_while0b_cst_61 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_cst_62 : Ref sig .tc := ⟨.hbm, 181, rfl⟩
abbrev main_while0b_call6_v0 : Ref sig .tc := ⟨.hbm, 182, rfl⟩
abbrev main_while0b_v103 : Ref sig .tc := ⟨.hbm, 183, rfl⟩
abbrev main_while0b_v104 : Ref sig .tc := ⟨.hbm, 184, rfl⟩
abbrev main_while0b_c_63 : Ref sig .tc := ⟨.hbm, 185, rfl⟩
abbrev main_while0b_v105 : Ref sig .tc := ⟨.hbm, 186, rfl⟩
abbrev main_while0b_v106 : Ref sig .tc := ⟨.hbm, 187, rfl⟩
abbrev main_while0b_v107 : Ref sig .tc := ⟨.hbm, 188, rfl⟩
abbrev main_while0b_v108 : Ref sig .tc := ⟨.hbm, 189, rfl⟩
abbrev main_while0b_c_64 : Ref sig .tc := ⟨.hbm, 190, rfl⟩
abbrev main_while0b_v109 : Ref sig .tc := ⟨.hbm, 191, rfl⟩
abbrev main_while0b_c_65 : Ref sig .tc := ⟨.hbm, 192, rfl⟩
abbrev main_while0b_v110 : Ref sig .tc := ⟨.hbm, 193, rfl⟩
abbrev main_while0b_v111 : Ref sig .tc := ⟨.hbm, 194, rfl⟩
abbrev main_while0b_v112 : Ref sig .tc := ⟨.hbm, 195, rfl⟩
abbrev main_while0b_v113 : Ref sig .tc := ⟨.hbm, 196, rfl⟩
abbrev main_while0b_v114 : Ref sig .tc := ⟨.hbm, 197, rfl⟩
abbrev main_while0b_v115 : Ref sig .tc := ⟨.hbm, 198, rfl⟩
abbrev main_while0b_cst_66 : Ref sig .tc := ⟨.hbm, 199, rfl⟩
abbrev main_while0b_call7_v0 : Ref sig .tc := ⟨.hbm, 200, rfl⟩
abbrev main_while0b_v116 : Ref sig .tc := ⟨.hbm, 201, rfl⟩
abbrev main_while0b_v117 : Ref sig .tc := ⟨.hbm, 202, rfl⟩
abbrev main_while0b_cst_67 : Ref sig .tc := ⟨.hbm, 203, rfl⟩
abbrev main_while0b_v118 : Ref sig .tc := ⟨.hbm, 204, rfl⟩
abbrev main_while0b_c_68 : Ref sig .tc := ⟨.hbm, 205, rfl⟩
abbrev main_while0b_v119 : Ref sig .tc := ⟨.hbm, 206, rfl⟩
abbrev main_while0b_v120 : Ref sig .tc := ⟨.hbm, 207, rfl⟩
abbrev main_while0b_v121 : Ref sig .tc := ⟨.hbm, 208, rfl⟩
abbrev main_while0b_v122 : Ref sig .tc := ⟨.hbm, 209, rfl⟩
abbrev main_while0b_v123 : Ref sig .tc := ⟨.hbm, 210, rfl⟩
abbrev main_while0b_c_69 : Ref sig .tc := ⟨.hbm, 211, rfl⟩
abbrev main_while0b_v124 : Ref sig .tc := ⟨.hbm, 212, rfl⟩
abbrev main_v28 : Ref sig .tc := ⟨.hbm, 213, rfl⟩

abbrev nD : Nat := 1
abbrev τ : Topo := Topo.v7x

variable {F : FTy → Type} [FloatOps F]

abbrev main_while0_count : Scf.Loop 32 := ⟨0#32, 64#32, 1#32⟩
-- ==== Proof.KernelIdealGather.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

/-! # The two kernel bodies, each run once on any staging memrefs

The algebra holds two copies of the pipelines' one: the second pipeline is entered at the second copy. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: two copies of the pipelines' one. -/
abbrev UU : Type := UR sig nD τ × UR sig nD τ
/-- The model. -/
abbrev MM (F : FTy → Type) : Type := MT nD τ sig Unit (Elt F) ℕ UU ℕ

theorem hz2 : (![0, 0] : Fin 2 → Nat) = fun _ => 0 := funext fun a => by fin_cases a <;> rfl

/-! ## The gather's body -/

/-- One row of the targets' block. -/
abbrev tgtRow (x0 : Vec F S1x8x64 .i32) (o : Fin 3 → Nat) (h : ∀ a, o a + S1x1x64.size a ≤ S1x8x64.size a) : Vec F S1x1x64 .i32 :=
  View.ld x0 (Rect.unit o S1x1x64.size h)
/-- One row's slab of the scores' block. -/
abbrev lpSlab (x1 : Vec F S128x8x1024 .f32) (o : Fin 3 → Nat) (h : ∀ a, o a + S128x1x1024.size a ≤ S128x8x1024.size a) : Vec F S128x1x1024 .f32 :=
  View.ld x1 (Rect.unit o S128x1x1024.size h)

/-- What the gather's body stores, last first. -/
def gatherPieces (i : grid0.Coords) (x0 : Vec F S1x8x64 .i32) (x1 : Vec F S128x8x1024 .f32) : List (View.Piece (Elt F) S64x8x128 .f32) :=
  [ ⟨Rect.unit (s := S64x8x128) ![0, 7, 0] S64x1x128.size inb_S64x8x128_S64x1x128_0_7_0, k0_pay2 (k0_pay3 i) (iota .tc S64x1024 32 [1] iota_S64x1024_d1_w32) (tgtRow x0 ![0, 7, 0] inb_S1x8x64_S1x1x64_0_7_0) (lpSlab x1 ![0, 7, 0] inb_S128x8x1024_S128x1x1024_0_7_0)⟩,
    ⟨Rect.unit (s := S64x8x128) ![0, 6, 0] S64x1x128.size inb_S64x8x128_S64x1x128_0_6_0, k0_pay1 (k0_pay3 i) (iota .tc S64x1024 32 [1] iota_S64x1024_d1_w32) (k0_pay11 (tgtRow x0 ![0, 6, 0] inb_S1x8x64_S1x1x64_0_6_0)) (lpSlab x1 ![0, 6, 0] inb_S128x8x1024_S128x1x1024_0_6_0)⟩,
    ⟨Rect.unit (s := S64x8x128) ![0, 5, 0] S64x1x128.size inb_S64x8x128_S64x1x128_0_5_0, k0_pay10 (k0_pay3 i) (iota .tc S64x1024 32 [1] iota_S64x1024_d1_w32) (tgtRow x0 ![0, 5, 0] inb_S1x8x64_S1x1x64_0_5_0) (lpSlab x1 ![0, 5, 0] inb_S128x8x1024_S128x1x1024_0_5_0)⟩,
    ⟨Rect.unit (s := S64x8x128) ![0, 4, 0] S64x1x128.size inb_S64x8x128_S64x1x128_0_4_0, k0_pay9 (k0_pay3 i) (iota .tc S64x1024 32 [1] iota_S64x1024_d1_w32) (tgtRow x0 ![0, 4, 0] inb_S1x8x64_S1x1x64_0_4_0) (lpSlab x1 ![0, 4, 0] inb_S128x8x1024_S128x1x1024_0_4_0)⟩,
    ⟨Rect.unit (s := S64x8x128) ![0, 3, 0] S64x1x128.size inb_S64x8x128_S64x1x128_0_3_0, k0_pay8 (k0_pay3 i) (iota .tc S64x1024 32 [1] iota_S64x1024_d1_w32) (tgtRow x0 ![0, 3, 0] inb_S1x8x64_S1x1x64_0_3_0) (lpSlab x1 ![0, 3, 0] inb_S128x8x1024_S128x1x1024_0_3_0)⟩,
    ⟨Rect.unit (s := S64x8x128) ![0, 2, 0] S64x1x128.size inb_S64x8x128_S64x1x128_0_2_0, k0_pay7 (k0_pay3 i) (iota .tc S64x1024 32 [1] iota_S64x1024_d1_w32) (tgtRow x0 ![0, 2, 0] inb_S1x8x64_S1x1x64_0_2_0) (lpSlab x1 ![0, 2, 0] inb_S128x8x1024_S128x1x1024_0_2_0)⟩,
    ⟨Rect.unit (s := S64x8x128) ![0, 1, 0] S64x1x128.size inb_S64x8x128_S64x1x128_0_1_0, k0_pay6 (k0_pay5 i (tgtRow x0 ![0, 1, 0] inb_S1x8x64_S1x1x64_0_1_0) (lpSlab x1 ![0, 1, 0] inb_S128x8x1024_S128x1x1024_0_1_0))⟩,
    ⟨Rect.unit (s := S64x8x128) ![0, 0, 0] S64x1x128.size inb_S64x8x128_S64x1x128_0_0_0, k0_pay4 i (tgtRow x0 ![0, 0, 0] inb_S1x8x64_S1x1x64_0_0_0) (lpSlab x1 ![0, 0, 0] inb_S128x8x1024_S128x1x1024_0_0_0)⟩ ]

theorem gatherCover (i : grid0.Coords) (x0 : Vec F S1x8x64 .i32) (x1 : Vec F S128x8x1024 .f32) (y : S64x8x128.Idx) :
    ∃ pc ∈ gatherPieces i x0 x1, y ∈ pc.1.set :=
  View.cover_of_tiledL (gatherPieces i x0 x1) S64x1x128.size (by sl_kernel_rfl) y

/-- The block the gather's body leaves. -/
def gatherBlock (i : grid0.Coords) (x0 : Vec F S1x8x64 .i32) (x1 : Vec F S128x8x1024 .f32) : Vec F S64x8x128 .f32 :=
  View.canon (gatherPieces i x0 x1)

set_option maxHeartbeats 1000000 in
/-- The gather's body, run. -/
def gatherRun (c : Dev nD) (i : grid0.Coords) (arg2 : Memref sig .tc .vmem S1x8x64 .i32) (harg2 : arg2.IsWhole) (arg3 : Memref sig .tc .vmem S128x8x1024 .f32) (harg3 : arg3.IsWhole) (arg4 : Memref sig .tc .vmem S64x8x128 .f32) (harg4 : arg4.IsWhole)
    (x0 : Vec F S1x8x64 .i32) (x1 : Vec F S128x8x1024 .f32) :
    { L : List (View.Piece (Elt F) S64x8x128 .f32) //
      ∀ (E : Set ℕ) (K : PUnit → sProp (MM F)),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__gather_kernel i arg2 harg2 arg3 harg3 arg4 harg4) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

theorem gatherRun_eq (c : Dev nD) (i : grid0.Coords) (arg2 : Memref sig .tc .vmem S1x8x64 .i32) (harg2 : arg2.IsWhole) (arg3 : Memref sig .tc .vmem S128x8x1024 .f32) (harg3 : arg3.IsWhole) (arg4 : Memref sig .tc .vmem S64x8x128 .f32) (harg4 : arg4.IsWhole)
    (x0 : Vec F S1x8x64 .i32) (x1 : Vec F S128x8x1024 .f32) :
    (gatherRun c i arg2 harg2 arg3 harg3 arg4 harg4 x0 x1).1 = gatherPieces i x0 x1 := by
  unfold gatherRun gatherPieces
  dsimp only
  sl_unfold_words
  simp only [View.readAt_eq_ld, harg2.read_unread, harg3.read_unread]

/-- The gather's body on any staging memrefs: the targets and scores as they were, the result at the block. -/
theorem gather_wp (c : Dev nD) (i : grid0.Coords) (arg2 : Memref sig .tc .vmem S1x8x64 .i32) (harg2 : arg2.IsWhole) (arg3 : Memref sig .tc .vmem S128x8x1024 .f32) (harg3 : arg3.IsWhole) (arg4 : Memref sig .tc .vmem S64x8x128 .f32) (harg4 : arg4.IsWhole)
    (x0 : Vec F S1x8x64 .i32) (x1 : Vec F S128x8x1024 .f32) (E : Set ℕ) (K : PUnit → sProp (MM F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (gatherBlock i x0 x1)) -∗ K ⟨⟩))
      ⊢ wp frame (wpE (defs₀ (F := F)) Variants.none c none) E (cc0__gather_kernel i arg2 harg2 arg3 harg3 arg4 harg4) K := by
  iintro ⟨H0, H1, H2, Hk⟩
  iapply ((gatherRun c i arg2 harg2 arg3 harg3 arg4 harg4 x0 x1).2 E K)
  isplitl [H0]; · iexact H0
  isplitl [H1]; · iexact H1
  isplitl [H2]; · iexact H2
  iintro ⟨H0, H1, ⟨%f, H2⟩⟩
  iapply Hk
  isplitl [H0]; · iexact H0
  isplitl [H1]; · iexact H1
  unfold owns; iexists _; isplitr
  swap; · iexact H2
  ipureintro
  rw [gatherRun_eq]
  exact View.read_writes_eq_canon _ _ _ (gatherCover i x0 x1)

end Cert.KernelIdeal.Run
end
-- ==== Proof.KernelIdealTrip.lean ====
module

public import proofs.«01_k».proof.Proof.KernelIdealGather

@[expose] public section

set_option maxRecDepth 16384

noncomputable section

/-! # The loop's body, run once on any staging memrefs -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (𝒱 : Variants) (c : Dev nD) (bd : Option 𝒱.V)
  (arg0 : Memref sig .tc .vmem S64x128x512 .f32) (harg0 : arg0.IsWhole) (arg1 : Memref sig .tc .vmem S512x512 .f32) (harg1 : arg1.IsWhole)
  (arg2 : Memref sig .tc .vmem S8x512 .f32) (harg2 : arg2.IsWhole) (arg3 : Memref sig .tc .vmem S128x1 .i32) (harg3 : arg3.IsWhole)
  (arg4 : Memref sig .tc .vmem S128x1 .f32) (harg4 : arg4.IsWhole) (arg5 : Memref sig .tc .vmem S128x512 .f32) (harg5 : arg5.IsWhole)
  (v0 v1 : Vec F S1x512 .f32) (v13 : Vec F S128x1 .i32) (v15 : Vec F S512x512 .f32) (X : BufTy.Contents (Elt F) arg0.view.ty)

set_option maxHeartbeats 1000000 in
/-- One trip at the doubled algebra: what it yields and what it stores. -/
@[irreducible] def trip (k : Fin k1_t1_loop.trips) :
    Σ' (R : FVec F S128x1 .f32 → BufTy.Contents (Elt F) arg5.view.ty → FVec F S128x1 .f32),
      { L : FVec F S128x1 .f32 → BufTy.Contents (Elt F) arg5.view.ty → List (View.Piece (Elt F) S128x512 .f32) //
        ∀ (E : Set ℕ) (acc : FVec F S128x1 .f32) (f : BufTy.Contents (Elt F) arg5.view.ty),
          (iprop((arg0.view.loc (c : Thread nD τ) ↦[arg0.view.set]{fullShare} X) ∗ (arg5.view.loc (c : Thread nD τ) ↦[arg5.view.set]{fullShare} f)) : sProp (MM F))
          ⊢ wp frame (wpE (defs₀ (F := F)) 𝒱 (c : Thread nD τ) bd) E (k1_t1_body (F := F) arg0 harg0 arg1 harg1 arg2 harg2 arg3 harg3 arg4 harg4 arg5 harg5 v0 v1 v13 v15 k acc)
              (fun yld => iprop(⌜yld = R acc f⌝ ∗ (arg0.view.loc (c : Thread nD τ) ↦[arg0.view.set]{fullShare} X)
                ∗ (arg5.view.loc (c : Thread nD τ) ↦[arg5.view.set]{fullShare} arg5.view.writes (Elt F) f (L acc f)))) } := by
  have hk : k.val < 64 := Nat.lt_of_lt_of_le k.isLt k1_t1_abs.2.1
  refine ⟨?_, ?_, fun E acc f => ?run⟩
  case run =>
    unfold k1_t1_body
    iintro ⟨H0, H5⟩
    sl_exec
    sl_step
    sl_close

/-- Both are those of the generated trip. -/
theorem trip_res_eq (k : Fin k1_t1_loop.trips) :
    (trip 𝒱 c bd arg0 harg0 arg1 harg1 arg2 harg2 arg3 harg3 arg4 harg4 arg5 harg5 v0 v1 v13 v15 X k).1 = tripR_k1_t1 𝒱 c bd arg0 harg0 arg1 harg1 arg2 harg2 arg3 harg3 arg4 harg4 arg5 harg5 v0 v1 v13 v15 X k := by
  unfold trip tripR_k1_t1 trip_k1_t1; rfl
theorem trip_pieces_eq (k : Fin k1_t1_loop.trips) :
    (trip 𝒱 c bd arg0 harg0 arg1 harg1 arg2 harg2 arg3 harg3 arg4 harg4 arg5 harg5 v0 v1 v13 v15 X k).2.1 = tripL_k1_t1 𝒱 c bd arg0 harg0 arg1 harg1 arg2 harg2 arg3 harg3 arg4 harg4 arg5 harg5 v0 v1 v13 v15 X k := by
  unfold trip tripL_k1_t1 trip_k1_t1; rfl

set_option warn.classDefReducibility false in
/-- The loop by its invariant, at the doubled algebra. -/
@[sl_loop] def loopInv (E : Set ℕ) (G : BufTy.Contents (Elt F) arg5.view.ty) (init : FVec F S128x1 .f32) :
    Idealize.ShloMosaic.LoopInv (M := MM F) Idealize.ShloMosaic.frame (wpE (defs₀ (F := F)) 𝒱 (c : Thread nD τ) bd) E k1_t1_loop.lb k1_t1_loop.ub k1_t1_loop.st
      k1_t1_ok init (k1_t1_body (F := F) arg0 harg0 arg1 harg1 arg2 harg2 arg3 harg3 arg4 harg4 arg5 harg5 v0 v1 v13 v15) where
  inv k acc := iprop((arg0.view.loc (c : Thread nD τ) ↦[arg0.view.set]{fullShare} X)
    ∗ (∃ f, (arg5.view.loc (c : Thread nD τ) ↦[arg5.view.set]{fullShare} f)
        ∗ ⌜f = arg5.view.writes (Elt F) G (st_k1_t1 (F := F) 𝒱 c bd arg0 harg0 arg1 harg1 arg2 harg2 arg3 harg3 arg4 harg4 arg5 harg5 v0 v1 v13 v15 X G init k).2⌝)
    ∗ ⌜acc = (st_k1_t1 (F := F) 𝒱 c bd arg0 harg0 arg1 harg1 arg2 harg2 arg3 harg3 arg4 harg4 arg5 harg5 v0 v1 v13 v15 X G init k).1⌝)
  step k acc := by
    iintro ⟨H0, ⟨%f, H5, %hf⟩, %ha⟩
    subst ha
    iapply (wp_wand_r Idealize.ShloMosaic.frame (wpE (defs₀ (F := F)) 𝒱 (c : Thread nD τ) bd) E)
    isplitl [H0 H5]
    · iapply ((trip 𝒱 c bd arg0 harg0 arg1 harg1 arg2 harg2 arg3 harg3 arg4 harg4 arg5 harg5 v0 v1 v13 v15 X k).2.2 E (st_k1_t1 (F := F) 𝒱 c bd arg0 harg0 arg1 harg1 arg2 harg2 arg3 harg3 arg4 harg4 arg5 harg5 v0 v1 v13 v15 X G init k).1 f)
      isplitl [H0]; · iexact H0
      iexact H5
    · iintro %yld ⟨%hr, H0, H5⟩
      isplitl [H0]; · iexact H0
      simp only [st_k1_t1_succ]
      isplitl [H5]
      · iexists _; isplitl [H5]; · iexact H5
        ipureintro; rw [hf, ← View.writes_append, trip_pieces_eq]
      ipureintro; rw [hr, hf, trip_res_eq]

end Cert.KernelIdeal.Run
end
-- ==== Proof.KernelIdealLoop.lean ====
module

public import proofs.«01_k».proof.Proof.KernelIdealTrip

@[expose] public section

set_option maxRecDepth 16384

noncomputable section

/-! # What the loop's body leaves in its result, as a 64-fold iteration

The body loads the three mask rows, fills the scratch and carries the accumulator through 64 trips; each trip replaces the
pair (accumulator, scratch) by a function of it. The result block is the negated accumulator. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-- The emission block of trip `k`. -/
abbrev emit (x0 : Vec F S64x128x512 .f32) (k : Fin k1_t1_loop.trips) : Vec F S1x128x512 .f32 :=
  View.ld x0 (Rect.unit (k1_off1 k) S1x128x512.size (k1_off1_inb k))

/-- One trip: the new accumulator and the new scratch. -/
def kstep (v0 v1 : Vec F S1x512 .f32) (v13 : Vec F S128x1 .i32) (v15 : Vec F S512x512 .f32) (x0 : Vec F S64x128x512 .f32)
    (k : Fin k1_t1_loop.trips) (p : FVec F S128x1 .f32 × Vec F S128x512 .f32) : FVec F S128x1 .f32 × Vec F S128x512 .f32 :=
  (k1_pay3 v13 p.1 (k1_pay10 v0 v1 p.2 (emit x0 k)) (k1_pay11 v0 v1 p.2 (emit x0 k)) (Scalar.addi (Scf.iv 0#32 1#32 k.val) 1#32),
    k1_pay4 v15 (k1_pay6 p.2 (emit x0 k)) (k1_pay10 v0 v1 p.2 (emit x0 k)))

/-- The pair after `n` trips (no more than there are). -/
def kiter (v0 v1 : Vec F S1x512 .f32) (v13 : Vec F S128x1 .i32) (v15 : Vec F S512x512 .f32) (x0 : Vec F S64x128x512 .f32)
    (p : FVec F S128x1 .f32 × Vec F S128x512 .f32) : ℕ → FVec F S128x1 .f32 × Vec F S128x512 .f32
  | 0 => p
  | n + 1 => if h : n < k1_t1_loop.trips then kstep v0 v1 v13 v15 x0 ⟨n, h⟩ (kiter v0 v1 v13 v15 x0 p n)
      else kiter v0 v1 v13 v15 x0 p n

section Body

variable (𝒱 : Variants) (c : Dev nD) (bd : Option 𝒱.V)
  (arg0 : Memref sig .tc .vmem S64x128x512 .f32) (harg0 : arg0.IsWhole) (arg1 : Memref sig .tc .vmem S512x512 .f32) (harg1 : arg1.IsWhole)
  (arg2 : Memref sig .tc .vmem S8x512 .f32) (harg2 : arg2.IsWhole) (arg3 : Memref sig .tc .vmem S128x1 .i32) (harg3 : arg3.IsWhole)
  (arg4 : Memref sig .tc .vmem S128x1 .f32) (harg4 : arg4.IsWhole) (arg5 : Memref sig .tc .vmem S128x512 .f32) (harg5 : arg5.IsWhole)
  (v0 v1 : Vec F S1x512 .f32) (v13 : Vec F S128x1 .i32) (v15 : Vec F S512x512 .f32) (x0 : Vec F S64x128x512 .f32)

/-- What a trip yields. -/
theorem trip_res (k : Fin k1_t1_loop.trips) (acc : FVec F S128x1 .f32) (f : BufTy.Contents (Elt F) arg5.view.ty) :
    tripR_k1_t1 𝒱 c bd arg0 harg0 arg1 harg1 arg2 harg2 arg3 harg3 arg4 harg4 arg5 harg5 v0 v1 v13 v15 (harg0.unread x0) k acc f
      = (kstep v0 v1 v13 v15 x0 k (acc, arg5.view.read (Elt F) f)).1 := by
  unfold tripR_k1_t1 trip_k1_t1
  dsimp only
  sl_unfold_words
  simp only [View.readAt_eq_ld, harg0.read_unread, View.ld_unit_zero (S := S128x512) hz]
  rfl

/-- What the scratch reads after a trip. -/
theorem trip_scr (k : Fin k1_t1_loop.trips) (acc : FVec F S128x1 .f32) (f : BufTy.Contents (Elt F) arg5.view.ty) (L : List (View.Piece (Elt F) S128x512 .f32)) :
    arg5.view.read (Elt F) (arg5.view.writes (Elt F) f
        (tripL_k1_t1 𝒱 c bd arg0 harg0 arg1 harg1 arg2 harg2 arg3 harg3 arg4 harg4 arg5 harg5 v0 v1 v13 v15 (harg0.unread x0) k acc
          (arg5.view.writes (Elt F) f L) ++ L))
      = (kstep v0 v1 v13 v15 x0 k (acc, arg5.view.read (Elt F) (arg5.view.writes (Elt F) f L))).2 := by
  unfold tripL_k1_t1 trip_k1_t1
  dsimp only
  sl_unfold_words
  simp only [View.readAt_eq_ld, harg0.read_unread, View.ld_unit_zero (S := S128x512) hz]
  rw [List.singleton_append, View.read_writes_eq_canon, View.canon_cons_unit_zero (S := S128x512) hz]
  · rfl
  · exact fun y => ⟨_, List.mem_cons_self, View.mem_set_unit_zero (S := S128x512) hz inb_S128x512_S128x512_0_0 y⟩

/-- The state the generated recursion carries is the iteration. -/
theorem st_eq (G : BufTy.Contents (Elt F) arg5.view.ty) (init : FVec F S128x1 .f32) : ∀ n, n ≤ k1_t1_loop.trips →
    ((st_k1_t1 𝒱 c bd arg0 harg0 arg1 harg1 arg2 harg2 arg3 harg3 arg4 harg4 arg5 harg5 v0 v1 v13 v15 (harg0.unread x0) G init n).1,
      arg5.view.read (Elt F) (arg5.view.writes (Elt F) G
        (st_k1_t1 𝒱 c bd arg0 harg0 arg1 harg1 arg2 harg2 arg3 harg3 arg4 harg4 arg5 harg5 v0 v1 v13 v15 (harg0.unread x0) G init n).2))
    = kiter v0 v1 v13 v15 x0 (init, arg5.view.read (Elt F) G) n
  | 0, _ => rfl
  | n + 1, h => by
    have ih := st_eq G init n (Nat.le_of_succ_le h)
    have e := st_k1_t1_succ 𝒱 c bd arg0 harg0 arg1 harg1 arg2 harg2 arg3 harg3 arg4 harg4 arg5 harg5 v0 v1 v13 v15 (harg0.unread x0) G init ⟨n, h⟩
    dsimp only at e
    rw [e]
    unfold kiter
    rw [dif_pos (show n < k1_t1_loop.trips from h), ← ih]
    exact Prod.ext (trip_res ..) (trip_scr ..)

end Body

/-- The block the loop's body leaves, of the four blocks it reads. -/
def loopBlock (x0 : Vec F S64x128x512 .f32) (x1 : Vec F S512x512 .f32) (x2 : Vec F S8x512 .f32) (x3 : Vec F S128x1 .i32) : Vec F S128x1 .f32 :=
  k1_pay5 (kiter (View.ld x2 (Rect.unit ![0, 0] S1x512.size inb_S8x512_S1x512_0_0))
    (View.ld x2 (Rect.unit ![1, 0] S1x512.size inb_S8x512_S1x512_1_0)) x3 x1 x0
    (k1_pay2, k1_pay1 (View.ld x2 (Rect.unit ![2, 0] S1x512.size inb_S8x512_S1x512_2_0))) 64).1

end Cert.KernelIdeal.Value

namespace Cert.KernelIdeal.Run

open Cert.KernelIdeal Cert.KernelIdeal.Gen Cert.KernelIdeal.Value

variable {F : FTy → Type} [FloatOps F]

set_option maxHeartbeats 1000000 in
/-- The loop's body, run. -/
def loopRun (c : Dev nD) (arg0 : Memref sig .tc .vmem S64x128x512 .f32) (harg0 : arg0.IsWhole) (arg1 : Memref sig .tc .vmem S512x512 .f32) (harg1 : arg1.IsWhole)
    (arg2 : Memref sig .tc .vmem S8x512 .f32) (harg2 : arg2.IsWhole) (arg3 : Memref sig .tc .vmem S128x1 .i32) (harg3 : arg3.IsWhole)
    (arg4 : Memref sig .tc .vmem S128x1 .f32) (harg4 : arg4.IsWhole) (arg5 : Memref sig .tc .vmem S128x512 .f32) (harg5 : arg5.IsWhole)
    (x0 : Vec F S64x128x512 .f32) (x1 : Vec F S512x512 .f32) (x2 : Vec F S8x512 .f32) (x3 : Vec F S128x1 .i32) :
    { L : List (View.Piece (Elt F) S128x1 .f32) //
      ∀ (E : Set ℕ) (K : PUnit → sProp (MM F)),
        iprop(owns (c : Thread nD τ) arg0 fullShare x0 ∗ owns (c : Thread nD τ) arg1 fullShare x1 ∗ owns (c : Thread nD τ) arg2 fullShare x2
            ∗ owns (c : Thread nD τ) arg3 fullShare x3 ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare x2
                ∗ owns (c : Thread nD τ) arg3 fullShare x3
                ∗ (∃ f, arg4.view.loc (c : Thread nD τ) ↦[arg4.view.set]{fullShare} arg4.view.writes (Elt F) f L)
                ∗ (∃ d, owns (c : Thread nD τ) arg5 fullShare d)) -∗ K ⟨⟩))
          ⊢ wp frame (wpE (defs₀ (F := F)) Variants.none c none) E (cc1__loop_kernel arg0 harg0 arg1 harg1 arg2 harg2 arg3 harg3 arg4 harg4 arg5 harg5) K } := by
  refine ⟨?_, fun E K => ?run⟩
  case run =>
    simp only [cc1__loop_kernel_eq_skeleton]; unfold cc1__loop_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _, _; isplitr; swap; · iexact HS0
    ipureintro; rfl

theorem loopCover (c : Dev nD) (arg0 : Memref sig .tc .vmem S64x128x512 .f32) (harg0 : arg0.IsWhole) (arg1 : Memref sig .tc .vmem S512x512 .f32) (harg1 : arg1.IsWhole)
    (arg2 : Memref sig .tc .vmem S8x512 .f32) (harg2 : arg2.IsWhole) (arg3 : Memref sig .tc .vmem S128x1 .i32) (harg3 : arg3.IsWhole)
    (arg4 : Memref sig .tc .vmem S128x1 .f32) (harg4 : arg4.IsWhole) (arg5 : Memref sig .tc .vmem S128x512 .f32) (harg5 : arg5.IsWhole)
    (x0 : Vec F S64x128x512 .f32) (x1 : Vec F S512x512 .f32) (x2 : Vec F S8x512 .f32) (x3 : Vec F S128x1 .i32) (y : S128x1.Idx) :
    ∃ pc ∈ (loopRun c arg0 harg0 arg1 harg1 arg2 harg2 arg3 harg3 arg4 harg4 arg5 harg5 x0 x1 x2 x3).1, y ∈ pc.1.set :=
  View.cover_of_tiledL (loopRun c arg0 harg0 arg1 harg1 arg2 harg2 arg3 harg3 arg4 harg4 arg5 harg5 x0 x1 x2 x3).1 S128x1.size (by sl_kernel_rfl) y

/-- What the stores leave: the negated accumulator after all trips. -/
theorem loopRun_canon (c : Dev nD) (arg0 : Memref sig .tc .vmem S64x128x512 .f32) (harg0 : arg0.IsWhole) (arg1 : Memref sig .tc .vmem S512x512 .f32) (harg1 : arg1.IsWhole)
    (arg2 : Memref sig .tc .vmem S8x512 .f32) (harg2 : arg2.IsWhole) (arg3 : Memref sig .tc .vmem S128x1 .i32) (harg3 : arg3.IsWhole)
    (arg4 : Memref sig .tc .vmem S128x1 .f32) (harg4 : arg4.IsWhole) (arg5 : Memref sig .tc .vmem S128x512 .f32) (harg5 : arg5.IsWhole)
    (x0 : Vec F S64x128x512 .f32) (x1 : Vec F S512x512 .f32) (x2 : Vec F S8x512 .f32) (x3 : Vec F S128x1 .i32) :
    View.canon (loopRun c arg0 harg0 arg1 harg1 arg2 harg2 arg3 harg3 arg4 harg4 arg5 harg5 x0 x1 x2 x3).1 = loopBlock x0 x1 x2 x3 := by
  unfold loopRun loopBlock
  dsimp only
  rw [View.canon_unit_zero hz]
  sl_unfold_words
  simp only [View.readAt_eq_ld, harg0.read_unread, harg1.read_unread, harg2.read_unread, harg3.read_unread, View.ld_unit_zero (S := S128x512) hz,
    View.ld_unit_zero (S := S512x512) hz, View.ld_unit_zero (S := S128x1) hz]
  have ht : k1_t1_loop.trips = 64 := by decide +kernel
  show k1_pay5 (st_k1_t1 _ _ _ _ _ _ _ _ _ _ _ _ _ _ _ _ _ _ _ _ _ _ k1_t1_loop.trips).1 = _
  rw [ht]
  refine congrArg k1_pay5 ((congrArg Prod.fst (st_eq Variants.none c none arg0 harg0 arg1 harg1 arg2 harg2 arg3 harg3 arg4 harg4 arg5 harg5
    _ _ x3 x1 x0 _ k1_pay2 64 (by rw [ht]))).trans ?_)
  rw [View.read_writes_eq_canon, View.canon_unit_zero (S := S128x512) hz]
  exact fun y => ⟨_, List.mem_cons_self, View.mem_set_unit_zero (S := S128x512) hz inb_S128x512_S128x512_0_0 y⟩

/-- The loop's body on any staging memrefs. -/
theorem loop_wp (c : Dev nD) (arg0 : Memref sig .tc .vmem S64x128x512 .f32) (harg0 : arg0.IsWhole) (arg1 : Memref sig .tc .vmem S512x512 .f32) (harg1 : arg1.IsWhole)
    (arg2 : Memref sig .tc .vmem S8x512 .f32) (harg2 : arg2.IsWhole) (arg3 : Memref sig .tc .vmem S128x1 .i32) (harg3 : arg3.IsWhole)
    (arg4 : Memref sig .tc .vmem S128x1 .f32) (harg4 : arg4.IsWhole) (arg5 : Memref sig .tc .vmem S128x512 .f32) (harg5 : arg5.IsWhole)
    (x0 : Vec F S64x128x512 .f32) (x1 : Vec F S512x512 .f32) (x2 : Vec F S8x512 .f32) (x3 : Vec F S128x1 .i32) (E : Set ℕ) (K : PUnit → sProp (MM F)) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (loopBlock x0 x1 x2 x3)
            ∗ (∃ d, owns (c : Thread nD τ) arg5 fullShare d)) -∗ K ⟨⟩))
      ⊢ wp frame (wpE (defs₀ (F := F)) Variants.none c none) E (cc1__loop_kernel arg0 harg0 arg1 harg1 arg2 harg2 arg3 harg3 arg4 harg4 arg5 harg5) K := by
  iintro ⟨H0, H1, H2, H3, H4, H5, Hk⟩
  iapply ((loopRun c arg0 harg0 arg1 harg1 arg2 harg2 arg3 harg3 arg4 harg4 arg5 harg5 x0 x1 x2 x3).2 E K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%f, H4⟩, H5⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (loopCover c arg0 harg0 arg1 harg1 arg2 harg2 arg3 harg3 arg4 harg4 arg5 harg5 x0 x1 x2 x3)).trans (loopRun_canon c arg0 harg0 arg1 harg1 arg2 harg2 arg3 harg3 arg4 harg4 arg5 harg5 x0 x1 x2 x3)
  iexact H5

end Cert.KernelIdeal.Run
end
-- ==== Proof.KernelIdealData.lean ====
module

public import proofs.«01_k».proof.Proof.KernelIdealLoop
public import proofs.«01_k».proof.Proof.KernelIdealGather
public import proofs.«01_k».proof.Proof.Gen.KernelIdeal.Regions
public import Idealize.ShloMosaic.Lib.Pipeline.DatRel
public import Idealize.ShloMosaic.Lib.Pipeline.ArrRel
public import Idealize.ShloMosaic.Lib.Pipeline.RegionArrays
public import Idealize.ShloMosaic.Lib.Pipeline.RegionsLoop

@[expose] public section

set_option maxRecDepth 16384

noncomputable section

/-! # The two regions: what each finds and leaves

The first region reads the scores by blocks of 128 rows out of 511, so the last block's staging buffer keeps a row that nothing
names: its result is stated by a relation. The second region is stated by its exact contents, over whatever the first left.
-/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

namespace Cert.KernelIdeal.Run

open Cert.KernelIdeal Cert.KernelIdeal.Gen Cert.KernelIdeal.Value

variable {F : FTy → Type} [FloatOps F]
variable (m : (ℓ : Loc nD τ sig) → Buf (Elt F) ℓ)

/-- The gathered array's contents. -/
abbrev Gath2 (F : FTy → Type) := Vec F S64x128x512 .f32

/-- Some contents, of which nothing is said. -/
def junk (F : FTy → Type) [FloatOps F] (s : Shape) : Vec F s .f32 := fun _ => ((inferInstance : ∀ e, Nonempty (Elt F e)) .f32).some

/-! ## The first region -/

/-- The part of window `w`'s array that the grid point `t` moves. -/
def blk0 (c : Dev nD) (w : Fin cfg0.W) (t : Fin cfg0.N) :
    ((cfg0.win w).xblock (cfg0.grid.coords t)).Idx → Elt F (cfg0.win w).elt :=
  ((cfg0.win w).blk t).view.read (Elt F) (V1 m c (Pipeline.arrRef spec0 w))

/-- The target block of the point. -/
abbrev tgtBlk (c : Dev nD) (t : Fin cfg0.N) : Vec F S1x8x64 .i32 := blk0 m c 0 t

/-- The staged scores at the point, over whatever the staging buffer held before. -/
abbrev lpFill (c : Dev nD) (t : Fin cfg0.N) (d : Vec F S128x8x1024 .f32) : Vec F S128x8x1024 .f32 :=
  win0_1.fill (grid0.coords t) d (blk0 m c 1 t)

/-- What the body may leave in its result block: the gathered block over some earlier contents of the staging buffer. -/
def gatherRel (c : Dev nD) (t : Fin cfg0.N) (X : Vec F S64x8x128 .f32) : Prop :=
  ∃ d, X = gatherBlock (grid0.coords t) (tgtBlk m c t) (lpFill m c t d)

/-- The windows whose contents are named by a relation: the result alone. -/
def fgt0 : Fin cfg0.W → Bool := fun | 0 => false | 1 => false | 2 => true | ⟨_ + 3, h⟩ => absurd h (Nat.not_lt.2 (Nat.le_add_left _ _))

def rel0 (c : Dev nD) : (w : Fin cfg0.W) → Fin cfg0.N → ((cfg0.win w).block.Idx → Elt F (cfg0.win w).elt) → Prop
  | 0, _, _ => True
  | 1, _, _ => True
  | 2, t, X => gatherRel m c t X
  | ⟨_ + 3, h⟩, _, _ => absurd h (Nat.not_lt.2 (Nat.le_add_left _ _))

def dat0 (c : Dev nD) : Dat τ (Elt F) Unit ℕ UU ℕ cfg0 c where
  A w := V1 m c (Pipeline.arrRef spec0 w)
  after w t := match w with
    | ⟨0, _⟩ => tgtBlk m c t
    | ⟨1, _⟩ => lpFill m c t (junk F S128x8x1024)
    | ⟨2, _⟩ => junk F S64x8x128
  Φ _ := Pipeline.scopedRest spec0 c
  q _ := fullShare
  owed _ := 0

theorem A0_eq (c : Dev nD) (w : Fin cfg0.W) : (dat0 m c).A w = V1 m c (Pipeline.arrRef spec0 w) := by
  dsimp only [dat0]

theorem after0_0 (c : Dev nD) (t : Fin cfg0.N) : (dat0 m c).after 0 t = tgtBlk m c t := by dsimp only [dat0]
theorem after0_1 (c : Dev nD) (t : Fin cfg0.N) : (dat0 m c).after 1 t = lpFill m c t (junk F S128x8x1024) := by dsimp only [dat0]

theorem before0_0 (c : Dev nD) (t : Fin cfg0.N) (d) : (dat0 m c).before 0 t d = tgtBlk m c t := by
  unfold Dat.before; rw [if_pos (fetch0_0 t)]
  unfold Dat.fetched Dat.blockOf tgtBlk blk0; rw [A0_eq]; rfl
theorem before0_1 (c : Dev nD) (t : Fin cfg0.N) (d) : (dat0 m c).before 1 t d = lpFill m c t d := by
  unfold Dat.before; rw [if_pos (fetch0_1 t)]
  unfold Dat.fetched Dat.blockOf lpFill blk0; rw [A0_eq]

def pre0 (c : Dev nD) (t : Fin cfg0.N) : sProp (MM F) :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ Y, ⌜((dat0 m c).toRRel fgt0 (rel0 m c)).Finds 2 t Y⌝ ∗ owns (c : Thread nD τ) (st0_2 t) fullShare Y))

def post0 (c : Dev nD) (t : Fin cfg0.N) : sProp (MM F) :=
  iprop((dat0 m c).Φ t.succ ∗ (dat0 m c).owesAt () t.succ
    ∗ owns (c : Thread nD τ) (st0_0 t) fullShare ((dat0 m c).after 0 t)
    ∗ (∃ d, owns (c : Thread nD τ) (st0_1 t) fullShare ((cfg0.win 1).fill (cfg0.grid.coords t) d ((cfg0.win 1).cut (cfg0.grid.coords t) ((dat0 m c).after 1 t))))
    ∗ (∃ X, ⌜rel0 m c 2 t X⌝ ∗ owns (c : Thread nD τ) (st0_2 t) fullShare X))

theorem sound0 (c : Dev nD) (t : Fin cfg0.N) :
    pre0 m c t ⊢ wp frame (wpE (defs₀ (F := F)) Variants.none c none) Set.univ (bodyAt0 t) (fun _ => post0 m c t) := by
  unfold pre0 post0 bodyAt0
  simp only [before0_0, before0_1]
  rw [show (dat0 m c).Φ t.succ = (dat0 m c).Φ t.castSucc from rfl,
    show (dat0 m c).owesAt () t.succ = (dat0 m c).owesAt () t.castSucc from rfl, after0_0, after0_1]
  iintro ⟨HΦ, HO, ⟨%d0, H0⟩, ⟨%d1, H1⟩, ⟨%d2, %h2, H2⟩⟩
  iapply (gather_wp c (grid0.coords t) _ _ _ _ _ _ (tgtBlk m c t) (lpFill m c t d1) Set.univ _)
  isplitl [H0]; · iexact H0
  isplitl [H1]; · iexact H1
  isplitl [H2]; · iexists d2; iexact H2
  iintro ⟨H0, H1, H2⟩
  isplitl [HΦ]; · iexact HΦ
  isplitl [HO]; · iexact HO
  isplitl [H0]; · iexact H0
  isplitl [H1]
  · iexists d1
    rw [(cfg0.win 1).cut_fill]
    iexact H1
  iexists _
  isplitr
  swap; · iexact H2
  ipureintro
  exact ⟨d1, rfl⟩

theorem row0 (t : Fin cfg0.N) : defs₀ (F := F) .tc cfg0.body (cfg0.bodyArgs t (cfg0.slots t)) = bodyAt0 t := by
  unfold defs₀; rw [Defs.onTc_tc]

theorem body0 (c : Dev nD) : BodyObligationRel (dat0 m c) (defs₀ (F := F)) Variants.none () Set.univ fgt0 (rel0 m c) := fun t => by
  rw [bigSep_W0, bigSep_W0, row0]
  exact sound0 m c t

/-! ## The second region -/

/-- The buffers once the first region has left `x` in the gathered array. -/
abbrev W2 (x : Gath2 F) (c : Dev nD) : Valuation τ sig (Elt F) := Function.update (V1 m c) main_v2 x
/-- The buffers when the second region is entered. -/
abbrev W3 (x : Gath2 F) (c : Dev nD) : Valuation τ sig (Elt F) := StableHlo.after hostOps1 (W2 m x c)

def blk1 (x : Gath2 F) (c : Dev nD) (w : Fin cfg1.W) (t : Fin cfg1.N) :
    ((cfg1.win w).xblock (cfg1.grid.coords t)).Idx → Elt F (cfg1.win w).elt :=
  ((cfg1.win w).blk t).view.read (Elt F) (W3 m x c (Pipeline.arrRef spec1 w))

def dat1 (x : Gath2 F) (c : Dev nD) : Dat τ (Elt F) Unit ℕ UU ℕ cfg1 c where
  A w := W3 m x c (Pipeline.arrRef spec1 w)
  after w t := match w with
    | ⟨0, _⟩ => blk1 m x c 0 t
    | ⟨1, _⟩ => blk1 m x c 1 t
    | ⟨2, _⟩ => blk1 m x c 2 t
    | ⟨3, _⟩ => blk1 m x c 3 t
    | ⟨4, _⟩ => loopBlock (blk1 m x c 0 t) (blk1 m x c 1 t) (blk1 m x c 2 t) (blk1 m x c 3 t)
  Φ _ := Pipeline.scopedRest spec1 c
  q _ := fullShare
  owed _ := 0

theorem A1_eq (x : Gath2 F) (c : Dev nD) (w : Fin cfg1.W) : (dat1 m x c).A w = W3 m x c (Pipeline.arrRef spec1 w) := by
  dsimp only [dat1]

theorem after1_0 (x : Gath2 F) (c : Dev nD) (t : Fin cfg1.N) : (dat1 m x c).after 0 t = blk1 m x c 0 t := by dsimp only [dat1]
theorem after1_1 (x : Gath2 F) (c : Dev nD) (t : Fin cfg1.N) : (dat1 m x c).after 1 t = blk1 m x c 1 t := by dsimp only [dat1]
theorem after1_2 (x : Gath2 F) (c : Dev nD) (t : Fin cfg1.N) : (dat1 m x c).after 2 t = blk1 m x c 2 t := by dsimp only [dat1]
theorem after1_3 (x : Gath2 F) (c : Dev nD) (t : Fin cfg1.N) : (dat1 m x c).after 3 t = blk1 m x c 3 t := by dsimp only [dat1]
theorem after1_4 (x : Gath2 F) (c : Dev nD) (t : Fin cfg1.N) : (dat1 m x c).after 4 t = loopBlock (blk1 m x c 0 t) (blk1 m x c 1 t) (blk1 m x c 2 t) (blk1 m x c 3 t) := by dsimp only [dat1]

theorem before1_0 (x : Gath2 F) (c : Dev nD) (t : Fin cfg1.N) (d) : (dat1 m x c).before 0 t d = blk1 m x c 0 t := by
  unfold Dat.before; rw [if_pos (fetch1_0 t)]
  unfold Dat.fetched Dat.blockOf blk1; rw [A1_eq]; rfl
theorem before1_1 (x : Gath2 F) (c : Dev nD) (t : Fin cfg1.N) (d) : (dat1 m x c).before 1 t d = blk1 m x c 1 t := by
  unfold Dat.before; rw [if_pos (fetch1_1 t)]
  unfold Dat.fetched Dat.blockOf blk1; rw [A1_eq]; rfl
theorem before1_2 (x : Gath2 F) (c : Dev nD) (t : Fin cfg1.N) (d) : (dat1 m x c).before 2 t d = blk1 m x c 2 t := by
  unfold Dat.before; rw [if_pos (fetch1_2 t)]
  unfold Dat.fetched Dat.blockOf blk1; rw [A1_eq]; rfl
theorem before1_3 (x : Gath2 F) (c : Dev nD) (t : Fin cfg1.N) (d) : (dat1 m x c).before 3 t d = blk1 m x c 3 t := by
  unfold Dat.before; rw [if_pos (fetch1_3 t)]
  unfold Dat.fetched Dat.blockOf blk1; rw [A1_eq]; rfl

def pre1 (x : Gath2 F) (c : Dev nD) (t : Fin cfg1.N) : sProp (MM F) :=
  iprop((dat1 m x c).Φ t.castSucc ∗ (dat1 m x c).owesAt () t.castSucc
    ∗ (∃ d, owns (c : Thread nD τ) (st1_0 t) fullShare ((dat1 m x c).before 0 t d))
    ∗ (∃ d, owns (c : Thread nD τ) (st1_1 t) fullShare ((dat1 m x c).before 1 t d))
    ∗ (∃ d, owns (c : Thread nD τ) (st1_2 t) fullShare ((dat1 m x c).before 2 t d))
    ∗ (∃ d, owns (c : Thread nD τ) (st1_3 t) fullShare ((dat1 m x c).before 3 t d))
    ∗ (∃ d, owns (c : Thread nD τ) (st1_4 t) fullShare ((dat1 m x c).before 4 t d)))

def post1 (x : Gath2 F) (c : Dev nD) (t : Fin cfg1.N) : sProp (MM F) :=
  iprop((dat1 m x c).Φ t.succ ∗ (dat1 m x c).owesAt () t.succ
    ∗ owns (c : Thread nD τ) (st1_0 t) fullShare ((dat1 m x c).after 0 t)
    ∗ owns (c : Thread nD τ) (st1_1 t) fullShare ((dat1 m x c).after 1 t)
    ∗ owns (c : Thread nD τ) (st1_2 t) fullShare ((dat1 m x c).after 2 t)
    ∗ owns (c : Thread nD τ) (st1_3 t) fullShare ((dat1 m x c).after 3 t)
    ∗ owns (c : Thread nD τ) (st1_4 t) fullShare ((dat1 m x c).after 4 t))

theorem sound1 (x : Gath2 F) (c : Dev nD) (t : Fin cfg1.N) :
    pre1 m x c t ⊢ wp frame (wpE (defs₀ (F := F)) Variants.none c none) Set.univ (bodyAt1 t) (fun _ => post1 m x c t) := by
  unfold pre1 post1 bodyAt1
  simp only [before1_0, before1_1, before1_2, before1_3]
  rw [show (dat1 m x c).Φ t.succ = (dat1 m x c).Φ t.castSucc from rfl,
    show (dat1 m x c).owesAt () t.succ = (dat1 m x c).owesAt () t.castSucc from rfl,
    after1_0, after1_1, after1_2, after1_3, after1_4]
  rw [show (dat1 m x c).Φ t.castSucc = Pipeline.scopedRest spec1 c from rfl, scopedRest1_eq]
  iintro ⟨⟨HA, HB, HC, HD, HE, HF, ⟨%s, HS⟩⟩, HO, ⟨%d0, H0⟩, ⟨%d1, H1⟩, ⟨%d2, H2⟩, ⟨%d3, H3⟩, ⟨%d4, H4⟩⟩
  iapply (loop_wp c _ _ _ _ _ _ _ _ _ _ _ _ (blk1 m x c 0 t) (blk1 m x c 1 t) (blk1 m x c 2 t) (blk1 m x c 3 t) Set.univ _)
  isplitl [H0]; · iexact H0
  isplitl [H1]; · iexact H1
  isplitl [H2]; · iexact H2
  isplitl [H3]; · iexact H3
  isplitl [H4]; · iexists _; iexact H4
  isplitl [HS]
  · iexists s; rw [owns_whole]; iexact HS
  iintro ⟨H0, H1, H2, H3, H4, ⟨%s', HS⟩⟩
  ihave HS := (Entails.of_eq (owns_whole (c : Thread nD τ) cc1_scratch0 fullShare s')) $$ HS
  isplitl [HA HB HC HD HE HF HS]
  · isplitl [HA]; · iexact HA
    isplitl [HB]; · iexact HB
    isplitl [HC]; · iexact HC
    isplitl [HD]; · iexact HD
    isplitl [HE]; · iexact HE
    isplitl [HF]; · iexact HF
    iexists s'; iexact HS
  isplitl [HO]; · iexact HO
  isplitl [H0]; · iexact H0
  isplitl [H1]; · iexact H1
  isplitl [H2]; · iexact H2
  isplitl [H3]; · iexact H3
  iexact H4

theorem row1 (t : Fin cfg1.N) : defs₀ (F := F) .tc cfg1.body (cfg1.bodyArgs t (cfg1.slots t)) = bodyAt1 t := by
  unfold defs₀; rw [Defs.onTc_tc]

theorem body1 (x : Gath2 F) (c : Dev nD) : BodyObligation (dat1 m x c) (defs₀ (F := F)) Variants.none () Set.univ := fun t => by
  rw [bigSep_W1, bigSep_W1, row1]
  exact sound1 m x c t

end Cert.KernelIdeal.Run
end
-- ==== Proof.KernelIdealRun.lean ====
module

public import proofs.«01_k».proof.Proof.KernelIdealData
public import Idealize.ShloMosaic.Lib.Pipeline.Regions

@[expose] public section

set_option maxRecDepth 16384

noncomputable section

/-! # The run of the whole program

The first region leaves something that a relation names; the rest of the program runs under that existential, the second
region at the exact contents it then finds.
-/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

namespace Cert.KernelIdeal.Run

open Cert.KernelIdeal Cert.KernelIdeal.Gen Cert.KernelIdeal.Value

variable {F : FTy → Type} [FloatOps F]
variable (m : (ℓ : Loc nD τ sig) → Buf (Elt F) ℓ) (ρ : Dev nD → PrngReg)

/-- One copy of the rounds' state for the launch theorem's regions, -/
abbrev EL : Emb (UR sig nD τ) (MM F) := embL
/-- and one for the region entered at contents that only the run names. -/
abbrev ER : Emb (UR sig nD τ) (MM F) := embR

abbrev LL : GSem nD τ sig → Finset Unit := fun _ => ∅
abbrev lvl : GSem nD τ sig → Unit → ℕ := fun _ _ => 0

/-- The core owes nothing. -/
abbrev RR (c : Dev nD) : sProp (MM F) := iprop(∃ W, owes (c : Thread nD τ) (0 : CellTallies nD τ sig Unit) W)

/-- The second region's share of the launch's state. -/
def ghost1 (c : Dev nD) : sProp (MM F) :=
  iprop(Pipeline.cellsGhost (Pipeline.pin (pcfgs (F := F)) adm) (ER (F := F)) 1 c
    ∗ Pipeline.toksInit (Pipeline.pin (pcfgs (F := F)) adm) (ER (F := F)) 1 c)

/-- Exact data of both pipelines, the second's over `x`. -/
def edats (x : Gath2 F) : (p : Fin 2) → (c : Dev nD) → Dat τ (Elt F) Unit ℕ UU ℕ (cfgs p) c
  | ⟨0, _⟩, c => dat0 m c
  | ⟨1, _⟩, c => dat1 m x c
  | ⟨_ + 2, h⟩, _ => absurd h (Nat.not_lt.2 (Nat.le_add_left _ _))

/-- Relational data of both pipelines, as the launch theorem takes them. -/
def rdats : (p : Fin 2) → (c : Dev nD) → RDat τ (Elt F) Unit ℕ UU ℕ (cfgs p) c
  | ⟨0, _⟩, c => (dat0 m c).toRRel fgt0 (rel0 m c)
  | ⟨1, _⟩, c => (dat1 m (junk F S64x128x512) c).toR
  | ⟨_ + 2, h⟩, _ => absurd h (Nat.not_lt.2 (Nat.le_add_left _ _))

/-- What the first region may have left in the gathered array. -/
def Left (c : Dev nD) (x : Gath2 F) : Prop := ((dat0 m c).toRRel fgt0 (rel0 m c)).ArrAt 2 cfg0.N x

/-- The buffers once the second region has run, -/
abbrev W4 (x : Gath2 F) (c : Dev nD) : Valuation τ sig (Elt F) :=
  Function.update (W3 m x c) main_v16 ((dat1 m x c).arrAt 4 cfg1.N)
/-- and at the end. -/
abbrev W5 (x : Gath2 F) (c : Dev nD) : Valuation τ sig (Elt F) := StableHlo.after hostOps2 (W4 m x c)

theorem W2_of (x : Gath2 F) (c : Dev nD) (r : Ref sig .tc) (h : r ≠ main_v2) : W2 m x c r = V1 m c r :=
  Function.update_of_ne (StableHlo.devRef_ne_of_ne h : (Proc.devRef .tc r : DevRef τ sig) ≠ Proc.devRef .tc main_v2) _ _
theorem W2_self (x : Gath2 F) (c : Dev nD) : W2 m x c main_v2 = x := Function.update_self _ _ _
theorem W3_of (x : Gath2 F) (c : Dev nD) (r : Ref sig .tc) (h : r ∉ hostOps1_W) : W3 m x c r = W2 m x c r :=
  StableHlo.after_of_writes_sub hostOps1 _ hostOps1_writes h
theorem W4_of (x : Gath2 F) (c : Dev nD) (r : Ref sig .tc) (h : r ≠ main_v16) : W4 m x c r = W3 m x c r :=
  Function.update_of_ne (StableHlo.devRef_ne_of_ne h : (Proc.devRef .tc r : DevRef τ sig) ≠ Proc.devRef .tc main_v16) _ _
theorem W4_self (x : Gath2 F) (c : Dev nD) : W4 m x c main_v16 = (dat1 m x c).arrAt 4 cfg1.N := Function.update_self _ _ _
theorem W5_of (x : Gath2 F) (c : Dev nD) (r : Ref sig .tc) (h : r ∉ hostOps2_W) : W5 m x c r = W4 m x c r :=
  StableHlo.after_of_writes_sub hostOps2 _ hostOps2_writes h

theorem left_0 (c : Dev nD) {G} (h : ((dat0 m c).toRRel fgt0 (rel0 m c)).ArrAt 0 cfg0.N G) : G = V1 m c main_v1 := by
  rw [RDat.ArrAt_in _ 0 rfl] at h
  exact h.trans (A0_eq m c 0)
theorem left_1 (c : Dev nD) {G} (h : ((dat0 m c).toRRel fgt0 (rel0 m c)).ArrAt 1 cfg0.N G) : G = V1 m c main_arg0 := by
  rw [RDat.ArrAt_in _ 1 rfl] at h
  exact h.trans (A0_eq m c 1)

/-- The first region's arrays at its end, opened. -/
theorem open0 (c : Dev nD) : (((dat0 m c).toRRel fgt0 (rel0 m c)).arraysAt cfg0.N : sProp (MM F))
    ⊢ iprop(∃ A, ⌜∀ w, ((dat0 m c).toRRel fgt0 (rel0 m c)).ArrAt w cfg0.N (A w)⌝ ∗ (dat0 m c).arrays A) := by
  unfold RDat.arraysAt
  iintro Ha
  ihave Ha' := (BI.bigSep_exists_pi Finset.univ (fun w G => iprop(⌜((dat0 m c).toRRel fgt0 (rel0 m c)).ArrAt w cfg0.N G⌝
      ∗ (cfg0.win w).arr.view.loc (c.tc : Thread nD τ) ↦[(cfg0.win w).arr.view.set]{((dat0 m c).toRRel fgt0 (rel0 m c)).share w} G))) $$ Ha
  icases Ha' with ⟨%A, Ha⟩
  ihave Ha2 := (BI.bigSep_pure_sep Finset.univ (fun w => ((dat0 m c).toRRel fgt0 (rel0 m c)).ArrAt w cfg0.N (A w))
      (fun w => (cfg0.win w).arr.view.loc (c.tc : Thread nD τ) ↦[(cfg0.win w).arr.view.set]{((dat0 m c).toRRel fgt0 (rel0 m c)).share w} A w)) $$ Ha
  icases Ha2 with ⟨%hA', Ha⟩
  iexists A; isplitr; · ipureintro; exact fun w => hA' w (Finset.mem_univ w)
  unfold Dat.arrays
  iexact Ha

set_option backward.isDefEq.respectTransparency.types false in
/-- The first region: entered from the buffers after the first host stretch, left with the gathered array at something it may hold. -/
def reg0 : Pipeline.RDat.RegionSeg (pcfgs (F := F)) adm (rdats m) () defs₀ Variants.none LL lvl 0 where
  win := launch0.win.to₀
  block_pos := launch0.block_pos
  stage_whole := launch0.stage_whole
  K := PEmpty
  osem k := k.elim
  ho := Pipeline.OwnSemFacts.none _
  hbody c := (body0 m c).toRRel
  hwaits := Pipeline.RDat.hwaits_of_owed_zero _ _ _ _ LL lvl 0 fun _ _ => rfl
  pre c := iprop(StableHlo.held (c : Thread nD τ) (Pipeline.ucRefs τ sig) (V1 m c) ∗ RR c ∗ ghost1 c)
  post c := iprop(∃ x : Gath2 F, ⌜Left m c x⌝ ∗ StableHlo.held (c : Thread nD τ) (Pipeline.ucRefs τ sig) (W2 m x c) ∗ RR c ∗ ghost1 c)
  X c := iprop(emp)
  Y c := iprop(emp)
  Z c := iprop(Pipeline.unscopedRest spec0 c (fun b => V1 m c b) ∗ ghost1 c)
  hentry c := by
    rw [← Pipeline.unscopedBufs_held c (V1 m c), Pipeline.ownSems0_none, Pipeline.prefHeld_of_none _ rfl]
    have hsplit := Pipeline.RDat.arrays_of_unscopedBufs (p := 0) (pcfgs (F := F)) adm (rdats m) launch0.win launch0.arr_whole c
      ((dat0 m c).share_full fun _ => rfl) (fun b => V1 m c b) (A0_eq m c)
    iintro ⟨⟨Hub, HO, Hg⟩, -, -⟩
    ihave H := hsplit $$ Hub
    icases H with ⟨Ha, Hr⟩
    imodintro
    isplitl [Ha]; · iexact Ha
    isplitr; · iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hr]; · iexact Hr
    iexact Hg
  hin c := by
    change _ ⊢ Pipeline.scopedRest spec0 c
    iintro ⟨-, -, Hr⟩
    iexact Hr
  hout c := by
    change Pipeline.scopedRest spec0 c ⊢ _
    rw [Pipeline.ownSems0_none]
    iintro Hr
    isplitr; · iempintro
    isplitr; · iempintro
    iexact Hr
  hexit c := by
    have harr : ((rdats m 0 c).arraysAt (Pipeline.pin (pcfgs (F := F)) adm 0).N : sProp (MM F))
        ⊢ iprop(∃ A, ⌜∀ w, ((dat0 m c).toRRel fgt0 (rel0 m c)).ArrAt w cfg0.N (A w)⌝ ∗ (edats m (junk F S64x128x512) 0 c).arrays A) := open0 m c
    iintro ⟨Ha, HO, -, Hr, Hg⟩
    ihave H := harr $$ Ha
    icases H with ⟨%A, %hA, Ha⟩
    ihave Hub := (Pipeline.unscopedBufs_of_arrays (p := 0) (pcfgs (F := F)) adm launch0.win launch0.arr_whole c (edats m (junk F S64x128x512))
      ((dat0 m c).share_full fun _ => rfl) (fun b => V1 m c b) (fun b => W2 m (A 2) c b) A
      (fun w => match w with
        | ⟨0, _⟩ => (left_0 m c (hA 0)).trans (W2_of m _ c main_v1 (by decide)).symm
        | ⟨1, _⟩ => (left_1 m c (hA 1)).trans (W2_of m _ c main_arg0 (by decide)).symm
        | ⟨2, _⟩ => (W2_self m (A 2) c).symm)
      (fun b hb => W2_of m _ c b fun e => hb (Finset.mem_image.mpr ⟨2, Finset.mem_univ _, e.symm⟩))) $$ [Ha Hr]
    · isplitl [Ha]; · iexact Ha
      iexact Hr
    imodintro
    iexists (A 2)
    isplitr; · ipureintro; exact hA 2
    rw [← Pipeline.unscopedBufs_held c (W2 m (A 2) c)]
    isplitl [Hub]; · iexact Hub
    isplitl [HO]
    · unfold Pipeline.RDat.owesAt Pipeline.owesWithin
      icases HO with ⟨%W, -, HO⟩; iexists W; iexact HO
    iexact Hg

theorem final_in (x : Gath2 F) (c : Dev nD) (w : Fin cfg1.W) (h : (cfg1.win w).isOut = false) :
    (dat1 m x c).arrAt w cfg1.N = W3 m x c (Pipeline.arrRef spec1 w) :=
  ((dat1 m x c).arrAt_in w h _).trans (A1_eq m x c w)

set_option backward.isDefEq.respectTransparency.types false in
/-- The second region over `x`. -/
abbrev reg1 (x : Gath2 F) : Pipeline.RegionSeg (pcfgs (F := F)) adm (edats m x) () defs₀ Variants.none LL lvl 1 where
  win := launch1.win.to₀
  block_pos := launch1.block_pos
  stage_whole := launch1.stage_whole
  K := PEmpty
  osem k := k.elim
  ho := Pipeline.OwnSemFacts.none _
  hbody c := (body1 m x c).loose
  hwaits := Pipeline.hwaits_of_owed_zero _ _ _ _ LL lvl 1 fun _ _ => rfl
  pre c := iprop(StableHlo.held (c : Thread nD τ) (Pipeline.ucRefs τ sig) (W3 m x c) ∗ RR c)
  post c := iprop(StableHlo.held (c : Thread nD τ) (Pipeline.ucRefs τ sig) (W4 m x c) ∗ RR c)
  X c := iprop(emp)
  Y c := iprop(emp)
  Z c := iprop(Pipeline.unscopedRest spec1 c (fun b => W3 m x c b))
  hentry c := by
    rw [← Pipeline.unscopedBufs_held c (W3 m x c), Pipeline.ownSems0_none, Pipeline.prefHeld_of_none _ rfl]
    have hsplit := Pipeline.arrays_of_unscopedBufs (p := 1) (pcfgs (F := F)) adm (edats m x) launch1.win launch1.arr_whole c
      ((dat1 m x c).share_full fun _ => rfl) (fun b => W3 m x c b) (A1_eq m x c)
    iintro ⟨⟨Hub, HO⟩, -, -⟩
    ihave H := hsplit $$ Hub
    icases H with ⟨Ha, Hr⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    change _ ⊢ Pipeline.scopedRest spec1 c
    iintro ⟨-, -, Hr⟩
    iexact Hr
  hout c := by
    change Pipeline.scopedRest spec1 c ⊢ _
    rw [Pipeline.ownSems0_none]
    iintro Hr
    isplitr; · iempintro
    isplitr; · iempintro
    iexact Hr
  hexit c := by
    iintro ⟨Ha, HO, -, Hr⟩
    ihave Hub := (Pipeline.unscopedBufs_of_arrays (p := 1) (pcfgs (F := F)) adm launch1.win launch1.arr_whole c (edats m x)
      ((dat1 m x c).share_full fun _ => rfl) (fun b => W3 m x c b) (fun b => W4 m x c b) (fun w => (dat1 m x c).arrAt w cfg1.N)
      (fun w => match w with
        | ⟨0, _⟩ => (final_in m x c 0 rfl).trans (W4_of m x c main_v2 (by decide)).symm
        | ⟨1, _⟩ => (final_in m x c 1 rfl).trans (W4_of m x c main_v14 (by decide)).symm
        | ⟨2, _⟩ => (final_in m x c 2 rfl).trans (W4_of m x c main_cst (by decide)).symm
        | ⟨3, _⟩ => (final_in m x c 3 rfl).trans (W4_of m x c main_v15 (by decide)).symm
        | ⟨4, _⟩ => (W4_self m x c).symm)
      (fun b hb => W4_of m x c b fun e => hb (Finset.mem_image.mpr ⟨4, Finset.mem_univ _, e.symm⟩))) $$ [Ha Hr]
    · isplitl [Ha]; · iexact Ha
      iexact Hr
    imodintro
    rw [← Pipeline.unscopedBufs_held c (W4 m x c)]
    isplitl [Hub]; · iexact Hub
    unfold Pipeline.Dat.owesAt Pipeline.owesWithin
    icases HO with ⟨%W, -, HO⟩; iexists W; iexact HO

/-! ## The stretches of the program after the first region, under whatever it left -/

abbrev seg0' : Pipeline.HostSeg (Name := ℕ) (U := UU) (pcfgs (F := F)) defs₀ Variants.none LL lvl :=
  seg0 m Variants.none LL lvl (fun _ c => iprop(RR c ∗ ghost1 c))

/-- A host stretch under an existential. -/
def exOps (ops : List (HloOp τ sig (Elt F))) (hs : ∀ op ∈ ops, op.bufs ⊆ Pipeline.ucRefs τ sig) (hf : ∀ op ∈ ops, op.fresh = ∅)
    (V : Gath2 F → Dev nD → Valuation τ sig (Elt F)) (R : Dev nD → sProp (MM F)) :
    Pipeline.HostSeg (Name := ℕ) (U := UU) (pcfgs (F := F)) defs₀ Variants.none LL lvl where
  prog := StableHlo.seq ops
  pre c := iprop(∃ x : Gath2 F, ⌜Left m c x⌝ ∗ StableHlo.held (c : Thread nD τ) (Pipeline.ucRefs τ sig) (V x c) ∗ R c)
  post c := iprop(∃ x : Gath2 F, ⌜Left m c x⌝ ∗ StableHlo.held (c : Thread nD τ) (Pipeline.ucRefs τ sig) (StableHlo.after ops (V x c)) ∗ R c)
  run c {β} k K := by
    have hseq := fun x => StableHlo.wp_seq (defs := Pipeline.defs (pcfgs (F := F)) defs₀) (Variants.lift Variants.none) none Set.univ c
      (Pipeline.ucRefs τ sig) k (K := K) ops hs hf (V x c)
    iintro ⟨Hk, Hbd, ⟨%x, %hx, Hh, HR⟩, -⟩
    iapply (hseq x) $$ [Hbd Hh]
    · isplitl [Hbd] <;> iassumption
    iintro ⟨Hbd, Hh⟩
    iapply Hk
    isplitl [Hbd]; · iexact Hbd
    iexists x
    isplitr; · ipureintro; exact hx
    isplitl [Hh] <;> iassumption

abbrev seg2' : Pipeline.HostSeg (Name := ℕ) (U := UU) (pcfgs (F := F)) defs₀ Variants.none LL lvl :=
  exOps m hostOps1 (fun op h => Pipeline.sub_ucRefs op ((List.forall_iff_forall_mem.mp hostOps1_sub) op h))
    (fun op h => (List.forall_iff_forall_mem.mp hostOps1_fresh) op h) (W2 m) (fun c => iprop(RR c ∗ ghost1 c))
abbrev seg4' : Pipeline.HostSeg (Name := ℕ) (U := UU) (pcfgs (F := F)) defs₀ Variants.none LL lvl :=
  exOps m hostOps2 (fun op h => Pipeline.sub_ucRefs op ((List.forall_iff_forall_mem.mp hostOps2_sub) op h))
    (fun op h => (List.forall_iff_forall_mem.mp hostOps2_fresh) op h) (W4 m) (fun c => iprop(RR c))

set_option backward.isDefEq.respectTransparency.types false in
/-- The second region under the existential. -/
def segC : Pipeline.HostSeg (Name := ℕ) (U := UU) (pcfgs (F := F)) defs₀ Variants.none LL lvl where
  prog := Prog.lift (.customCall (Pipeline.entry 1) ())
  pre c := iprop(∃ x : Gath2 F, ⌜Left m c x⌝ ∗ StableHlo.held (c : Thread nD τ) (Pipeline.ucRefs τ sig) (W3 m x c) ∗ RR c ∗ ghost1 c)
  post c := iprop(∃ x : Gath2 F, ⌜Left m c x⌝ ∗ StableHlo.held (c : Thread nD τ) (Pipeline.ucRefs τ sig) (W4 m x c) ∗ RR c)
  run c {β} k K := by
    iintro ⟨Hk, Hbd, ⟨%x, %hx, Hh, HO, Hg⟩, Hl⟩
    iapply (Pipeline.RegionSeg.wp (pcfgs (F := F)) adm (edats m x) () cellOf_inj ER defs₀ Variants.none LL lvl (reg1 m x) c none
      (fun _ h => nomatch h) k K)
    isplitl [Hk]
    · iintro ⟨Hbd, Hh, HO⟩
      iapply Hk
      isplitl [Hbd]; · iexact Hbd
      iexists x
      isplitr; · ipureintro; exact hx
      isplitl [Hh]; · iexact Hh
      iexact HO
    isplitl [Hbd]; · iexact Hbd
    isplitl [Hh HO]
    · isplitl [Hh]; · iexact Hh
      iexact HO
    isplitl [Hl]; · iexact Hl
    unfold ghost1
    iexact Hg

abbrev segs' : List (Pipeline.RDat.Seg (pcfgs (F := F)) adm (rdats m) () defs₀ Variants.none LL lvl) :=
  [.host (seg0' m), .region (reg0 m), .host (seg2' m), .host (segC m), .host (seg4' m)]

/-- The launch's element: the rounds' initial state, twice. -/
def u₀ : UU := (initOf (Pipeline.cells cfgs cellOf_inj) (Pipeline.launchToks cfgs cellOf_inj),
  initOf (Pipeline.cells cfgs cellOf_inj) (Pipeline.launchToks cfgs cellOf_inj))

theorem take_snd {M : Type} [URA M] (A B C D : sProp M) : iprop((A ∗ B) ∗ (C ∗ D)) ⊢ iprop(B ∗ D) := by
  iintro ⟨⟨-, H1⟩, ⟨-, H2⟩⟩
  isplitl [H1]; · iexact H1
  iexact H2

theorem bigSep_P {M : Type} [URA M] (Φ : Fin 2 → sProp M) : bigSep Finset.univ Φ = iprop(Φ 0 ∗ Φ 1) :=
  bigSep_univ_eq_bigSepL [(0 : Fin 2), (1 : Fin 2)] (by decide) (by decide) Φ

set_option backward.isDefEq.respectTransparency.types false in
theorem deal : (ownU (u₀) : sProp (MM F)) ⊢ |={Set.univ}=> iprop(BI.own (EL (initOf (Pipeline.cells cfgs cellOf_inj) (Pipeline.launchToks cfgs cellOf_inj)))
    ∗ bigSep Finset.univ (ghost1 (F := F))) := by
  unfold u₀
  iintro Hu
  ihave H := (ownU_pair _ _) $$ Hu
  icases H with ⟨HP, HQ⟩
  imod (Pipeline.fund_ghost (Pipeline.pin (pcfgs (F := F)) adm) (ER (F := F)) cellOf_inj) $$ HQ with ⟨Hg, Ht⟩
  imodintro
  isplitl [HP]; · iexact HP
  have hj : iprop((bigSep Finset.univ fun c : Dev nD => bigSep Finset.univ fun p => Pipeline.cellsGhost (Pipeline.pin (pcfgs (F := F)) adm) (ER (F := F)) p c)
      ∗ (bigSep Finset.univ fun c : Dev nD => bigSep Finset.univ fun p => (Pipeline.toksInit (Pipeline.pin (pcfgs (F := F)) adm) (ER (F := F)) p c : sProp (MM F))))
      ⊢ bigSep Finset.univ (ghost1 (F := F)) := by
    rw [← bigSep_sep']
    refine bigSep_mono fun c _ => ?_
    rw [bigSep_P, bigSep_P]
    unfold ghost1
    exact take_snd _ _ _ _
  iapply hj
  isplitl [Hg]; · iexact Hg
  iexact Ht

set_option backward.isDefEq.respectTransparency.types false in
/-- THE RUN: at every final state the counters are at zero and the unscoped buffers are as the program leaves them over something the
    first region may have left. -/
theorem run_whole : θ_run defs (onTc (τ := τ) (main (F := F))) ⟨m, fun _ => 0, ρ⟩ (fun r =>
    (∀ c : Dev nD, ∃ x : Gath2 F, Left m c x ∧ ∀ b ∈ Pipeline.ucRefs τ sig, r.2.mem ((c : Thread nD τ).1, b) = W5 m x c b)
      ∧ r.2.sem = fun _ => 0) := by
  refine Pipeline.RDat.θ_run_regions_kit_dev_sems (pcfgs (F := F)) adm (rdats m) () cellOf_inj EL defs₀ Variants.none LL lvl m ρ main
    (fun _ => segs' m)
    (fun c Q => by
      rewrite [main_chain c, Pipeline.RDat.Seg.run_eq_chain,
        show (segs' m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs', Pipeline.RDat.Seg.pipes_host, Pipeline.RDat.Seg.pipes_region, Pipeline.RDat.Seg.pipes_nil]; decide)
    (O₀ := 0) (hL := fun _ _ => rfl) (G := ghost1 (F := F)) (u₀ := u₀) (hu₀ := deal)
    (T₀ := fun c => iprop(StableHlo.held (c : Thread nD τ) (Pipeline.ucRefs τ sig) (V0 m c) ∗ RR c ∗ ghost1 c))
    (Tₙ := fun c => iprop(∃ x : Gath2 F, ⌜Left m c x⌝ ∗ StableHlo.held (c : Thread nD τ) (Pipeline.ucRefs τ sig) (W5 m x c)))
    (hch := fun c => ⟨.rfl, .rfl, .rfl, .rfl, .rfl, ?_⟩)
    (hinit := ?_)
    (QY := fun c s => ∃ x : Gath2 F, Left m c x ∧ ∀ b ∈ Pipeline.ucRefs τ sig, s.mem ((c : Thread nD τ).1, b) = W5 m x c b)
    (hfin := fun c s' => ?_) (hQ := fun _ h hz => ⟨h, funext fun g => hz g (.inr (regions_no_unscoped g.2))⟩)
  · change iprop(∃ x : Gath2 F, ⌜Left m c x⌝ ∗ StableHlo.held (c : Thread nD τ) (Pipeline.ucRefs τ sig) (W5 m x c) ∗ RR c) ⊢ _
    iintro ⟨%x, %hx, Hh, HO⟩
    isplitl [Hh]
    · iexists x
      isplitr; · ipureintro; exact hx
      iexact Hh
    iexact HO
  · refine Pipeline.initEach LL lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, Hg⟩, -⟩
    imodintro
    isplitl [Hh]; · iexact Hh
    isplitl [HO]; · iexists ∅; iexact HO
    iexact Hg
  · iintro ⟨⟨%x, %hx, Hh⟩, HSI⟩
    unfold StableHlo.held
    ihave Hr := (pointsTo_read_all (Pipeline.ucRefs τ sig) (fun b => ((c : Thread nD τ).1, b)) (W5 m x c) s') $$ [Hh HSI]
    · isplitl [Hh] <;> iassumption
    icases Hr with ⟨%h, HSI⟩
    imodintro
    isplitr
    · ipureintro
      exact ⟨x, hx, h⟩
    · iexact HSI

theorem mem_uc (r : Ref sig .tc) (h : (Proc.devRef .tc r : DevRef τ sig).isScoped = false) :
    (Proc.devRef .tc r : DevRef τ sig) ∈ Pipeline.ucRefs τ sig :=
  Finset.mem_filter.mpr ⟨StableHlo.devRef_mem_tcRefs r, by rw [h]; decide⟩

theorem W5_arg (x : Gath2 F) (c : Dev nD) (r : Ref sig .tc) (h0 : r ∉ hostOps0_W) (h1 : r ≠ main_v2) (h2 : r ∉ hostOps1_W)
    (h3 : r ≠ main_v16) (h4 : r ∉ hostOps2_W) : W5 m x c r = m ((c : Thread nD τ).loc r) :=
  (W5_of m x c r h4).trans <| (W4_of m x c r h3).trans <| (W3_of m x c r h2).trans <| (W2_of m x c r h1).trans <| (V1_of m c r h0).trans rfl

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => by
    obtain ⟨x, -, hb⟩ := h.1 c
    exact ⟨(hb _ (mem_uc main_arg0 (by decide))).trans (W5_arg m x c main_arg0 (by decide) (by decide) (by decide) (by decide) (by decide)),
      (hb _ (mem_uc main_arg1 (by decide))).trans (W5_arg m x c main_arg1 (by decide) (by decide) (by decide) (by decide) (by decide)),
      (hb _ (mem_uc main_arg2 (by decide))).trans (W5_arg m x c main_arg2 (by decide) (by decide) (by decide) (by decide) (by decide))⟩, h.2⟩) (run_whole m ρ)

end Cert.KernelIdeal.Run
end
-- ==== Proof.Tree.lean ====
module

public import Idealize.ShloMosaic.PureOps.Ideal
import Mathlib.Tactic.IntervalCases

@[expose] public section

/-! # The segment tree of the problem, in closed form

The states of the problem are the nodes `i < 511` of a dyadic tree over 512 positions. With `n = i + 1`, node `i` begins at
`n - lsb n` and ends at `n + lsb n`, where `lsb n` is the lowest set bit of `n`. A node follows another one when it begins
where the other ends; it is a start node when it begins at 0, an end node when it ends at 512, an inner node otherwise. -/

namespace Cert.Tree

/-- The lowest set bit of `n`, for `0 < n < 1024`. -/
def lsb (n : Nat) : Nat := Nat.land n (Nat.sub 1024 n)
/-- Where node `i` begins. -/
def beg (i : Nat) : Nat := Nat.sub (Nat.succ i) (lsb (Nat.succ i))
/-- Where node `i` ends. -/
def fin (i : Nat) : Nat := Nat.add (Nat.succ i) (lsb (Nat.succ i))
/-- Node `j` follows node `i`. -/
def adj (i j : Nat) : Bool := Nat.beq (fin i) (beg j)
/-- Node `i` ends at the last position. -/
def isEnd (i : Nat) : Bool := Nat.beq (fin i) 512
/-- Node `i` is a node and does not end at the last position. -/
def isOut (i : Nat) : Bool := cond (Nat.blt i 511) (cond (Nat.beq (fin i) 512) false true) false
/-- Node `j` is a node and begins at the first position. -/
def isStart (j : Nat) : Bool := cond (Nat.blt j 511) (Nat.beq (beg j) 0) false

/-- `f` holds at every number below `n`, by structural recursion. -/
def chk (f : Nat → Bool) : Nat → Bool
  | 0 => true
  | n + 1 => cond (f n) (chk f n) false

/-- A check that succeeds holds at every number below its bound. -/
theorem chk_spec {f : Nat → Bool} {n : Nat} (h : chk f n = true) : ∀ i, i < n → f i = true := by
  induction n with
  | zero => exact fun i hi => absurd hi (Nat.not_lt_zero i)
  | succ n ih =>
    intro i hi
    unfold chk at h
    cases hf : f n with
    | false => rw [hf] at h; cases h
    | true =>
      rw [hf] at h
      rcases Nat.lt_succ_iff_lt_or_eq.1 hi with hlt | rfl
      · exact ih h i hlt
      · exact hf

/-- A check over `a` blocks of `b` entries holds at every number below `a * b`. -/
theorem chk_block {f : Nat → Bool} {a b : Nat} (h : chk (fun x => chk (fun y => f (Nat.add (Nat.mul b x) y)) b) a = true) :
    ∀ i, i < a * b → f i = true := by
  intro i hi
  have hb : 0 < b := Nat.pos_of_ne_zero fun h0 => by subst h0; simp at hi
  have h1 := chk_spec (chk_spec h (i / b) ((Nat.div_lt_iff_lt_mul hb).2 hi)) (i % b) (Nat.mod_lt i hb)
  have e : Nat.add (Nat.mul b (i / b)) (i % b) = i := Nat.div_add_mod i b
  rw [e] at h1
  exact h1

/-- The float word of a table entry that is 0 or 1. -/
def bitWord (b : Bool) : Nat := cond b 1065353216 0

end Cert.Tree
-- ==== Proof.Index.lean ====
module

public import proofs.«01_k».proof.Proof.Tree
public import proofs.«01_k».proof.KernelIdeal
public import proofs.«01_k».proof.ReferenceIdeal
import Idealize.ShloMosaic.Lib.Tactic

@[expose] public section

/-! # The printed index tables list the inner nodes, the end nodes, the start nodes and the edges of the tree -/

namespace Cert.Tree

/-- The sum of `g` below `n`, by structural recursion. -/
def sumN (g : Nat → Nat) : Nat → Nat
  | 0 => 0
  | n + 1 => Nat.add (sumN g n) (g n)

theorem sumN_eq (g : Nat → Nat) (n : Nat) : sumN g n = ∑ i : Fin n, g i.val := by
  induction n with
  | zero => rfl
  | succ n ih => rw [Fin.sum_univ_castSucc]; show sumN g n + g n = _; rw [ih]; rfl

/-- The numbers `f 0, …, f (n-1)` are distinct and none of their bits is set in `acc`. -/
def fresh (f : Nat → Nat) : Nat → Nat → Bool
  | 0, _ => true
  | n + 1, acc => cond (Nat.testBit acc (f n)) false (fresh f n (Nat.lor acc (Nat.shiftLeft 1 (f n))))

theorem fresh_spec (f : Nat → Nat) : ∀ n acc, fresh f n acc = true →
    (∀ k, k < n → Nat.testBit acc (f k) = false) ∧ ∀ k l, k < n → l < n → f k = f l → k = l := by
  intro n
  induction n with
  | zero => exact fun acc _ => ⟨fun k hk => absurd hk (Nat.not_lt_zero k), fun k l hk => absurd hk (Nat.not_lt_zero k)⟩
  | succ n ih =>
    intro acc h
    unfold fresh at h
    cases ht : Nat.testBit acc (f n) with
    | true => rw [ht] at h; cases h
    | false =>
      rw [ht] at h
      obtain ⟨h1, h2⟩ := ih _ h
      have h3 : ∀ k, k < n → Nat.testBit acc (f k) = false ∧ f k ≠ f n := by
        intro k hk
        have := h1 k hk
        change Nat.testBit (acc ||| 1 <<< f n) (f k) = false at this
        rw [Nat.testBit_or, Bool.or_eq_false_iff] at this
        refine ⟨this.1, fun e => ?_⟩
        rw [e, Nat.testBit_shiftLeft] at this
        simp at this
      refine ⟨fun k hk => ?_, fun k l hk hl e => ?_⟩
      · rcases Nat.lt_succ_iff_lt_or_eq.1 hk with hlt | rfl
        · exact (h3 k hlt).1
        · exact ht
      · rcases Nat.lt_succ_iff_lt_or_eq.1 hk with hlt | rfl <;> rcases Nat.lt_succ_iff_lt_or_eq.1 hl with hlt' | rfl
        · exact h2 k l hlt hlt' e
        · exact absurd e (h3 k hlt).2
        · exact absurd e.symm (h3 l hlt').2
        · rfl

/-! ## The tables as numbers -/

/-- The inner nodes in the order of the reference's list. -/
noncomputable def outN (k : Nat) : Nat := (Cert.ReferenceIdeal.lit1t k).toNat
/-- For each edge the place of its source among the inner nodes. -/
noncomputable def invN (k : Nat) : Nat := (Cert.ReferenceIdeal.lit2t k).toNat
/-- For each edge its target. -/
noncomputable def inN (k : Nat) : Nat := (Cert.ReferenceIdeal.lit4t k).toNat
/-- An edge as one number. -/
noncomputable def edge (k : Nat) : Nat := Nat.add (Nat.mul 512 (outN (invN k))) (inN k)

def endN : Nat → Nat
  | 0 => 255 | 1 => 383 | 2 => 447 | 3 => 479 | 4 => 495 | 5 => 503 | 6 => 507 | 7 => 509 | _ => 510
def startN : Nat → Nat
  | 0 => 255 | 1 => 127 | 2 => 63 | 3 => 31 | 4 => 15 | 5 => 7 | 6 => 3 | 7 => 1 | _ => 0

theorem out_ok : chk (fun k => cond (Nat.blt (outN k) 511) (isOut (outN k)) false) 502 = true := by decide +kernel
theorem out_fresh : fresh outN 502 0 = true := by decide +kernel
theorem out_card : sumN (fun i => cond (isOut i) 1 0) 512 = 502 := by decide +kernel
theorem inv_ok : chk (fun k => Nat.blt (invN k) 502) 1434 = true := by decide +kernel
theorem in_ok : chk (fun k => Nat.blt (inN k) 511) 1434 = true := by decide +kernel
theorem edge_ok : chk (fun k => adj (outN (invN k)) (inN k)) 1434 = true := by decide +kernel
theorem edge_fresh : fresh edge 1434 0 = true := by decide +kernel
theorem edge_card : sumN (fun i => sumN (fun j => cond (adj i j) 1 0) 512) 512 = 1434 := by decide +kernel
theorem end_ok : chk (fun k => cond (Nat.blt (endN k) 511) (isEnd (endN k)) false) 9 = true := by decide +kernel
theorem end_fresh : fresh endN 9 0 = true := by decide +kernel
theorem end_card : sumN (fun i => cond (isEnd i) 1 0) 512 = 9 := by decide +kernel
theorem start_ok : chk (fun k => cond (Nat.blt (startN k) 511) (isStart (startN k)) false) 9 = true := by decide +kernel
theorem start_fresh : fresh startN 9 0 = true := by decide +kernel
theorem start_card : sumN (fun i => cond (isStart i) 1 0) 512 = 9 := by decide +kernel
/-- An edge leaves an inner node. -/
theorem adj_out : chk (fun i => chk (fun j => cond (adj i j) (isOut i) true) 512) 512 = true := by decide +kernel
/-- The kernel's lists of the edges' sources and targets are the reference's. -/
theorem src_eq : chk (fun k => Nat.beq (Cert.KernelIdeal.lit0t k).toNat (outN (invN k))) 1434 = true := by decide +kernel
theorem dst_eq : chk (fun k => Nat.beq (Cert.KernelIdeal.lit1t k).toNat (inN k)) 1434 = true := by decide +kernel
/-- The kernel's three masks. -/
theorem mask0 : chk (fun i => Nat.beq (Cert.KernelIdeal.lit2t i).toNat (bitWord (isOut i))) 512 = true := by decide +kernel
theorem mask1 : chk (fun i => Nat.beq (Cert.KernelIdeal.lit2t (Nat.add 512 i)).toNat (bitWord (isEnd i))) 512 = true := by decide +kernel
theorem mask2 : chk (fun i => Nat.beq (Cert.KernelIdeal.lit2t (Nat.add 1024 i)).toNat (bitWord (isStart i))) 512 = true := by decide +kernel

end Cert.Tree
-- ==== Proof.LogSum.lean ====
module

public import Idealize.ShloMosaic.PureOps.Ideal

@[expose] public section

noncomputable section

/-! # Logarithms of sums of exponentials over the extended reals

Both programs take `log (∑ exp x)` after subtracting a maximum. These lemmas say that the subtraction changes nothing as
long as no `x` is `⊤`, whatever real number is subtracted. -/

namespace Cert.Tree

open Idealize.ShloMosaic

/-- The exponential of an extended real below `⊤`, as a real number: `0` at `⊥`. -/
def rexp (x : EReal) : ℝ := if x = ⊥ then 0 else Real.exp x.toReal

theorem rexp_nonneg (x : EReal) : 0 ≤ rexp x := by
  unfold rexp; split
  · exact le_rfl
  · exact (Real.exp_pos _).le

/-- Below `⊤` the extended exponential is the real one. -/
theorem exp_eq {x : EReal} (h : x < ⊤) : Ideal.exp x = (rexp x : EReal) := by
  induction x with
  | bot => simp [rexp]
  | coe r => simp [rexp]
  | top => exact absurd h (lt_irrefl _)

/-- Subtracting a real number divides the exponential by its exponential. -/
theorem rexp_sub {x : EReal} (h : x < ⊤) (m : ℝ) : rexp (x - (m : EReal)) = rexp x * Real.exp (-m) := by
  induction x with
  | bot => simp [rexp]
  | coe r =>
    rw [← EReal.coe_sub]
    simp only [rexp, EReal.coe_ne_bot, if_false, EReal.toReal_coe]
    rw [← Real.exp_add, sub_eq_add_neg]
  | top => exact absurd h (lt_irrefl _)

theorem sub_coe_lt_top {x : EReal} (h : x < ⊤) (m : ℝ) : x - (m : EReal) < ⊤ := by
  induction x with
  | bot => simp
  | coe r => rw [← EReal.coe_sub]; exact EReal.coe_lt_top _
  | top => exact absurd h (lt_irrefl _)

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the exponentials of entries below `⊤` is a real number. -/
theorem sum_exp {ι : Type} (s : Finset ι) (x : ι → EReal) (h : ∀ i ∈ s, x i < ⊤) :
    ∑ i ∈ s, Ideal.exp (x i) = ((∑ i ∈ s, rexp (x i) : ℝ) : EReal) := by
  rw [coe_sum]
  exact Finset.sum_congr rfl fun i hi => exp_eq (h i hi)

/-- The logarithm of the sum of the exponentials of the entries of `x` in `s`. -/
def lse {ι : Type} (s : Finset ι) (x : ι → EReal) : EReal := Ideal.log (∑ i ∈ s, Ideal.exp (x i))

/-- THE SHIFT: a real number subtracted from every entry and added back to the logarithm changes nothing. -/
theorem lse_shift {ι : Type} (s : Finset ι) (x : ι → EReal) (h : ∀ i ∈ s, x i < ⊤) (m : ℝ) :
    (m : EReal) + Ideal.log (∑ i ∈ s, Ideal.exp (x i - (m : EReal))) = lse s x := by
  unfold lse
  rw [sum_exp s x h, sum_exp s (fun i => x i - (m : EReal)) fun i hi => sub_coe_lt_top (h i hi) m]
  have e : ∑ i ∈ s, rexp (x i - (m : EReal)) = (∑ i ∈ s, rexp (x i)) * Real.exp (-m) := by
    rw [Finset.sum_mul]
    exact Finset.sum_congr rfl fun i hi => rexp_sub (h i hi) m
  rw [e]
  have h0 : 0 ≤ ∑ i ∈ s, rexp (x i) := Finset.sum_nonneg fun i _ => rexp_nonneg _
  generalize (∑ i ∈ s, rexp (x i)) = S at h0
  rcases h0.eq_or_lt with hS | hS
  · rw [← hS, zero_mul, Ideal.log_coe, if_pos le_rfl, EReal.add_bot]
  · have hp : 0 < S * Real.exp (-m) := mul_pos hS (Real.exp_pos _)
    rw [Ideal.log_coe, Ideal.log_coe, if_neg (not_le.2 hp), if_neg (not_le.2 hS), ← EReal.coe_add,
      Real.log_mul hS.ne' (Real.exp_pos _).ne', Real.log_exp]
    congr 1; ring

/-- The sum of exponentials is not negative, so its absolute value is itself. -/
theorem abs_sum_exp {ι : Type} (s : Finset ι) (x : ι → EReal) (h : ∀ i ∈ s, x i < ⊤) :
    max (∑ i ∈ s, Ideal.exp (x i)) (-(∑ i ∈ s, Ideal.exp (x i))) = ∑ i ∈ s, Ideal.exp (x i) := by
  rw [sum_exp s x h, ← EReal.coe_neg]
  refine max_eq_left (EReal.coe_le_coe_iff.2 ?_)
  have h0 : 0 ≤ ∑ i ∈ s, rexp (x i) := Finset.sum_nonneg fun i _ => rexp_nonneg _
  linarith

theorem log_lt_top {x : EReal} (h : x < ⊤) : Ideal.log x < ⊤ := by
  induction x with
  | bot => simp
  | coe r =>
    rw [Ideal.log_coe]; split
    · exact bot_lt_top
    · exact EReal.coe_lt_top _
  | top => exact absurd h (lt_irrefl _)

theorem lse_lt_top {ι : Type} (s : Finset ι) (x : ι → EReal) (h : ∀ i ∈ s, x i < ⊤) : lse s x < ⊤ := by
  unfold lse; rw [sum_exp s x h]; exact log_lt_top (EReal.coe_lt_top _)

/-- An entry of `x` minus the logarithm of the sum stays below `⊤`: that logarithm is `⊥` only where every entry is. -/
theorem sub_lse_lt_top {ι : Type} (s : Finset ι) (x : ι → EReal) (h : ∀ i ∈ s, x i < ⊤) (i : ι) (hi : i ∈ s) :
    x i - lse s x < ⊤ := by
  by_cases hb : x i = ⊥
  · rw [hb]; simp
  · have hpos : 0 < ∑ i ∈ s, rexp (x i) := by
      refine lt_of_lt_of_le ?_ (Finset.single_le_sum (f := fun i => rexp (x i)) (fun i _ => rexp_nonneg _) hi)
      simp only [rexp, hb, if_false]; exact Real.exp_pos _
    unfold lse
    rw [sum_exp s x h, Ideal.log_coe, if_neg (not_le.2 hpos)]
    exact sub_coe_lt_top (h i hi) _

/-- A finite sum of extended reals below `⊤` is below `⊤`. -/
theorem sum_lt_top {ι : Type} (s : Finset ι) (x : ι → EReal) (h : ∀ i ∈ s, x i < ⊤) : ∑ i ∈ s, x i < ⊤ := by
  classical
  induction s using Finset.induction_on with
  | empty => simp
  | insert a s ha ih =>
    rw [Finset.sum_insert ha]
    exact EReal.add_lt_top (h a (Finset.mem_insert_self _ _)).ne
      (ih fun i hi => h i (Finset.mem_insert_of_mem hi)).ne

theorem exp_lt_top {x : EReal} (h : x < ⊤) : Ideal.exp x < ⊤ := by rw [exp_eq h]; exact EReal.coe_lt_top _

/-- What is at least a real number and below `⊤` is a real number. -/
theorem exists_coe {x : EReal} {r : ℝ} (h1 : (r : EReal) ≤ x) (h2 : x < ⊤) : ∃ m : ℝ, x = (m : EReal) :=
  ⟨x.toReal, (EReal.coe_toReal h2.ne (fun hb => by rw [hb] at h1; exact absurd h1 (by simp))).symm⟩

/-! ## The float words of the two programs, as extended reals -/

/-- `-64`, the logarithm that stands for no probability. -/
def c64 : EReal := Ideal.ofBits .f32 0xC2800000#32
/-- The float nearest `exp (-64)`. -/
def cEps : EReal := Ideal.ofBits .f32 0x114B4EA4#32
/-- `-1e30` as a float. -/
def cBig : EReal := Ideal.ofBits .f32 0xF149F2CA#32

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee]
  rw [← EReal.coe_mul, ← EReal.coe_one]; congr 1; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

theorem c64_real : ∃ r : ℝ, c64 = (r : EReal) := by
  unfold c64; simp [Ideal.ofBits, Ideal.ieee]
  exact ⟨_, rfl⟩
theorem cBig_real : ∃ r : ℝ, cBig = (r : EReal) := by
  unfold cBig; simp [Ideal.ofBits, Ideal.ieee]
  exact ⟨_, rfl⟩
theorem cEps_real : ∃ r : ℝ, cEps = (r : EReal) ∧ 0 < r ∧ r ≤ 1 := by
  unfold cEps; simp [Ideal.ofBits, Ideal.ieee]
  refine ⟨_, rfl, ?_, ?_⟩ <;> norm_num

theorem c64_lt_top : c64 < ⊤ := by obtain ⟨r, h⟩ := c64_real; rw [h]; exact EReal.coe_lt_top _
theorem cEps_lt_top : cEps < ⊤ := by obtain ⟨r, h, -⟩ := cEps_real; rw [h]; exact EReal.coe_lt_top _

/-- `exp` with everything below `-64` sent to the float nearest `exp (-64)`. -/
def expS (x : EReal) : EReal := if x < c64 then cEps else Ideal.exp x
/-- `log` with everything below that float sent to `-64`. -/
def logS (x : EReal) : EReal := if x < cEps then c64 else Ideal.log x

theorem expS_lt_top {x : EReal} (h : x < ⊤) : expS x < ⊤ := by
  unfold expS; split
  · exact cEps_lt_top
  · exact exp_lt_top h
theorem logS_lt_top {x : EReal} (h : x < ⊤) : logS x < ⊤ := by
  unfold logS; split
  · exact c64_lt_top
  · exact log_lt_top h
theorem logS_zero : logS 0 = c64 := by
  obtain ⟨r, h, h0, -⟩ := cEps_real
  unfold logS; rw [h, if_pos]; exact_mod_cast h0
theorem logS_one : logS 1 = 0 := by
  obtain ⟨r, h, -, h1⟩ := cEps_real
  unfold logS
  rw [h, if_neg (not_lt.2 (by exact_mod_cast h1)), ← EReal.coe_one, Ideal.log_coe, if_neg (by norm_num), Real.log_one, EReal.coe_zero]

end Cert.Tree

end
-- ==== Proof.Sums.lean ====
module

public import proofs.«01_k».proof.Proof.Index
public import proofs.«01_k».proof.Proof.LogSum

@[expose] public section

noncomputable section

/-! # Sums over the nodes and edges of the tree, and sums over the printed lists

A list without repetitions whose entries lie in a finite set of no more elements lists that set. So a sum over the
reference's lists is a sum over the nodes with the property in question. -/

namespace Cert.Tree

/-- Summing over an injective list of as many entries as the set has elements is summing over the set. -/
theorem sum_reindex {n : Nat} {α : Type} [DecidableEq α] (g : Fin n → α) (hg : Function.Injective g) (S : Finset α)
    (hS : ∀ k, g k ∈ S) (hc : S.card ≤ n) (f : α → EReal) : ∑ x ∈ S, f x = ∑ k, f (g k) := by
  have e : Finset.univ.image g = S := by
    refine Finset.eq_of_subset_of_card_le (fun x hx => ?_) ?_
    · obtain ⟨k, -, rfl⟩ := Finset.mem_image.1 hx
      exact hS k
    · rw [Finset.card_image_of_injective _ hg, Finset.card_univ, Fintype.card_fin]; exact hc
  rw [← e, Finset.sum_image fun a _ b _ h => hg h]

/-- And the list meets every element of the set. -/
theorem mem_reindex {n : Nat} {α : Type} [DecidableEq α] (g : Fin n → α) (hg : Function.Injective g) (S : Finset α)
    (hS : ∀ k, g k ∈ S) (hc : S.card ≤ n) (x : α) (hx : x ∈ S) : ∃ k, g k = x := by
  have e : Finset.univ.image g = S := by
    refine Finset.eq_of_subset_of_card_le (fun x hx => ?_) ?_
    · obtain ⟨k, -, rfl⟩ := Finset.mem_image.1 hx
      exact hS k
    · rw [Finset.card_image_of_injective _ hg, Finset.card_univ, Fintype.card_fin]; exact hc
  rw [← e] at hx
  obtain ⟨k, -, h⟩ := Finset.mem_image.1 hx
  exact ⟨k, h⟩

/-- The size of a subset of the 512 positions, as a recursive sum. -/
theorem card_filter512 (p : Nat → Bool) :
    (Finset.univ.filter fun i : Fin 512 => p i.val = true).card = sumN (fun i => cond (p i) 1 0) 512 := by
  rw [Finset.card_filter, sumN_eq]
  refine Finset.sum_congr rfl fun i _ => ?_
  cases p i.val <;> rfl

/-- The inner nodes, the end nodes, the start nodes; the nodes that `j` follows. -/
def outS : Finset (Fin 512) := Finset.univ.filter fun i => isOut i.val = true
def endS : Finset (Fin 512) := Finset.univ.filter fun i => isEnd i.val = true
def startS : Finset (Fin 512) := Finset.univ.filter fun i => isStart i.val = true
def predS (j : Nat) : Finset (Fin 512) := Finset.univ.filter fun i => adj i.val j = true

theorem mem_outS (i : Fin 512) : i ∈ outS ↔ isOut i.val = true := by simp [outS]
theorem mem_endS (i : Fin 512) : i ∈ endS ↔ isEnd i.val = true := by simp [endS]
theorem mem_predS (j : Nat) (i : Fin 512) : i ∈ predS j ↔ adj i.val j = true := by simp [predS]

/-- A predecessor is an inner node. -/
theorem predS_sub (j : Fin 512) (i : Fin 512) (h : i ∈ predS j.val) : i ∈ outS := by
  rw [mem_outS]
  rw [mem_predS] at h
  have := chk_spec (chk_spec adj_out i.val i.isLt) j.val j.isLt
  rw [h] at this
  exact this

theorem cond_split {a b : Bool} (h : cond a b false = true) : a = true ∧ b = true := by
  cases a
  · cases h
  · exact ⟨rfl, h⟩
theorem lt_of_blt {a b : Nat} (h : Nat.blt a b = true) : a < b := Nat.le_of_ble_eq_true h

theorem outN_lt (k : Fin 502) : outN k.val < 511 := lt_of_blt (cond_split (chk_spec out_ok k.val k.isLt)).1
theorem endN_lt (k : Fin 9) : endN k.val < 511 := lt_of_blt (cond_split (chk_spec end_ok k.val k.isLt)).1
theorem startN_lt (k : Fin 9) : startN k.val < 511 := lt_of_blt (cond_split (chk_spec start_ok k.val k.isLt)).1
theorem invN_lt (k : Fin 1434) : invN k.val < 502 := lt_of_blt (chk_spec inv_ok k.val k.isLt)
theorem inN_lt (k : Fin 1434) : inN k.val < 511 := lt_of_blt (chk_spec in_ok k.val k.isLt)

/-- The list entries as positions. -/
def outF (k : Fin 502) : Fin 512 := ⟨outN k.val, by have := outN_lt k; omega⟩
def endF (k : Fin 9) : Fin 512 := ⟨endN k.val, by have := endN_lt k; omega⟩
def startF (k : Fin 9) : Fin 512 := ⟨startN k.val, by have := startN_lt k; omega⟩
def invF (k : Fin 1434) : Fin 502 := ⟨invN k.val, invN_lt k⟩
def inF (k : Fin 1434) : Fin 512 := ⟨inN k.val, by have := inN_lt k; omega⟩

/-- A sum over the inner nodes is a sum over the reference's list of them. -/
theorem sum_out (f : Fin 512 → EReal) : ∑ i ∈ outS, f i = ∑ k : Fin 502, f (outF k) := by
  refine sum_reindex outF (fun a b h => Fin.ext ?_) outS (fun k => ?_) (le_of_eq ?_) f
  · exact (fresh_spec outN 502 0 out_fresh).2 _ _ a.isLt b.isLt (congrArg (fun p : Fin 512 => p.val) h)
  · rw [mem_outS]; exact (cond_split (chk_spec out_ok k.val k.isLt)).2
  · exact (card_filter512 isOut).trans out_card

/-- The same for the end nodes. -/
theorem sum_end (f : Fin 512 → EReal) : ∑ i ∈ endS, f i = ∑ k : Fin 9, f (endF k) := by
  refine sum_reindex endF (fun a b h => Fin.ext ?_) endS (fun k => ?_) (le_of_eq ?_) f
  · exact (fresh_spec endN 9 0 end_fresh).2 _ _ a.isLt b.isLt (congrArg (fun p : Fin 512 => p.val) h)
  · rw [mem_endS]; exact (cond_split (chk_spec end_ok k.val k.isLt)).2
  · exact (card_filter512 isEnd).trans end_card

/-- The start nodes are the entries of the reference's list. -/
theorem isStart_iff (j : Fin 512) : isStart j.val = true ↔ ∃ k : Fin 9, startN k.val = j.val := by
  constructor
  · intro h
    obtain ⟨k, hk⟩ := mem_reindex startF (fun a b h => Fin.ext
      ((fresh_spec startN 9 0 start_fresh).2 _ _ a.isLt b.isLt (congrArg (fun p : Fin 512 => p.val) h))) startS
      (fun k => by simp only [startS, Finset.mem_filter, Finset.mem_univ, true_and]
                   exact (cond_split (chk_spec start_ok k.val k.isLt)).2)
      (le_of_eq ((card_filter512 isStart).trans start_card)) j (by simp [startS, h])
    exact ⟨k, congrArg (fun p : Fin 512 => p.val) hk⟩
  · rintro ⟨k, hk⟩
    rw [← hk]
    exact (cond_split (chk_spec start_ok k.val k.isLt)).2

/-- All edges. -/
def edgeS : Finset (Fin 512 × Fin 512) := Finset.univ.filter fun p => adj p.1.val p.2.val = true

theorem edge_card' : edgeS.card = 1434 := by
  rw [edgeS, Finset.card_filter, Fintype.sum_prod_type, ← edge_card, sumN_eq]
  refine Finset.sum_congr rfl fun i _ => ?_
  rw [sumN_eq]
  refine Finset.sum_congr rfl fun j _ => ?_
  cases adj i.val j.val <;> rfl

/-- An edge of the reference's list, as a pair of nodes. -/
def edgeF (k : Fin 1434) : Fin 512 × Fin 512 := (outF (invF k), inF k)

theorem edgeF_injective : Function.Injective edgeF := fun a b h => Fin.ext <| by
  refine (fresh_spec edge 1434 0 edge_fresh).2 _ _ a.isLt b.isLt ?_
  have h1 : outN (invN a.val) = outN (invN b.val) := congrArg (fun p : Fin 512 × Fin 512 => p.1.val) h
  have h2 : inN a.val = inN b.val := congrArg (fun p : Fin 512 × Fin 512 => p.2.val) h
  show Nat.add (Nat.mul 512 (outN (invN a.val))) (inN a.val) = Nat.add (Nat.mul 512 (outN (invN b.val))) (inN b.val)
  rw [h1, h2]

theorem edgeF_mem (k : Fin 1434) : edgeF k ∈ edgeS := by
  simp only [edgeS, Finset.mem_filter, Finset.mem_univ, true_and]
  exact chk_spec edge_ok k.val k.isLt

/-- A node follows another one exactly when the list holds that edge. -/
theorem adj_iff (i j : Fin 512) : adj i.val j.val = true ↔ ∃ k : Fin 1434, outF (invF k) = i ∧ inF k = j := by
  constructor
  · intro h
    obtain ⟨k, hk⟩ := mem_reindex edgeF edgeF_injective edgeS edgeF_mem (le_of_eq edge_card') (i, j) (by simp [edgeS, h])
    exact ⟨k, congrArg Prod.fst hk, congrArg Prod.snd hk⟩
  · rintro ⟨k, rfl, rfl⟩
    exact chk_spec edge_ok k.val k.isLt

/-- Summing over the reference's list of edges those that end in `j` is summing over the predecessors of `j`. -/
theorem sum_adj (f : Fin 512 → EReal) (j : Fin 512) :
    (∑ k : Fin 1434, if inN k.val = j.val then f (outF (invF k)) else 0) = ∑ i ∈ predS j.val, f i := by
  have e := sum_reindex edgeF edgeF_injective edgeS edgeF_mem (le_of_eq edge_card') (fun p => if p.2.val = j.val then f p.1 else 0)
  refine Eq.trans ?_ (e.symm.trans ?_)
  · rfl
  · rw [edgeS, Finset.sum_filter, Fintype.sum_prod_type, predS, Finset.sum_filter]
    refine Finset.sum_congr rfl fun i _ => ?_
    rw [Finset.sum_eq_single j]
    · simp
    · intro b _ hb
      have : ¬ b.val = j.val := fun h => hb (Fin.ext h)
      simp [this]
    · intro h; exact absurd (Finset.mem_univ _) h

/-! ## The recursion of the problem, for one row -/

/-- The new scores from the old weights `P` and the emissions `x`. -/
def curr (x P : Fin 512 → EReal) (j : Fin 512) : EReal := logS (P j) + x j
/-- The logarithm of the total weight of the inner nodes. -/
def lc (x P : Fin 512 → EReal) : EReal := lse outS (curr x P)
/-- The logarithm of the total weight of the end nodes. -/
def ev (x P : Fin 512 → EReal) : EReal := lse endS (curr x P)
/-- The next weights: each node collects the normalised weights of the nodes that it follows. -/
def next (x P : Fin 512 → EReal) (j : Fin 512) : EReal := ∑ i ∈ predS j.val, expS (curr x P i - lc x P)
/-- The weights at the start. -/
def start (j : Fin 512) : EReal := cond (isStart j.val) 1 0
/-- What step `n` adds to the score of a target of length `tl`. -/
def gain (tl : BitVec 32) (n : Nat) (x P : Fin 512 → EReal) (acc : EReal) : EReal :=
  (acc + (if tl = BitVec.ofNat 32 (n + 1) then ev x P else 0)) + (if (BitVec.ofNat 32 (n + 1)).slt tl then lc x P else 0)

/-- Score and weights after `n` steps. -/
def run (tl : BitVec 32) (x : Nat → Fin 512 → EReal) : Nat → EReal × (Fin 512 → EReal)
  | 0 => (0, start)
  | n + 1 => (gain tl n (x n) (run tl x n).2 (run tl x n).1, next (x n) (run tl x n).2)

theorem curr_lt_top {x P : Fin 512 → EReal} (hx : ∀ j, x j < ⊤) (hP : ∀ j, P j < ⊤) (j : Fin 512) : curr x P j < ⊤ :=
  EReal.add_lt_top (logS_lt_top (hP j)).ne (hx j).ne

theorem next_lt_top {x P : Fin 512 → EReal} (hx : ∀ j, x j < ⊤) (hP : ∀ j, P j < ⊤) (j : Fin 512) : next x P j < ⊤ :=
  sum_lt_top _ _ fun i hi => expS_lt_top (sub_lse_lt_top outS (curr x P) (fun i _ => curr_lt_top hx hP i) i (predS_sub j i hi))

theorem run_lt_top (tl : BitVec 32) {x : Nat → Fin 512 → EReal} (hx : ∀ n j, x n j < ⊤) : ∀ n j, (run tl x n).2 j < ⊤
  | 0, j => by
    show start j < ⊤
    unfold start
    cases isStart j.val
    · exact EReal.zero_lt_top
    · exact EReal.coe_lt_top 1
  | n + 1, j => next_lt_top (hx n) (run_lt_top tl hx n) j

end Cert.Tree
end
-- ==== Proof.Layout.lean ====
module

public import proofs.«01_k».proof.Proof.Sums
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.Lib.Tactic

@[expose] public section

noncomputable section

/-! # Reading columns, and folded maxima as real numbers -/

open Idealize.ShloMosaic Idealize.ShloMosaic.ValueIdx

namespace Cert.Tree

/-- One column repeated along the rows reads, at `(p, c)`, the column at `p`. -/
theorem col_broadcast {α : Type} {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One column cast to a vector. -/
theorem col_cast {α : Type} {a : Nat} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A cast to the same shape changes nothing. -/
theorem same_cast {α : Type} {s : Shape} (x : s.Idx → α) (h : s.ShapeCasts s) (i : s.Idx) : shapeCast s x h i = x i :=
  shapeCast_apply x h _ _ rfl

/-- A maximum over values below `⊤`, one of them at least a real number, is a real number. -/
theorem fold_real {n : Nat} (f : Fin n → EReal) (r : ℝ) (j : Fin n) (hr : (r : EReal) ≤ f j) (h : ∀ i, f i < ⊤) :
    ∃ m : ℝ, (Finset.univ : Finset (Fin n)).fold max ⊥ f = (m : EReal) := by
  refine exists_coe (r := r) ?_ ?_
  · exact (Finset.le_fold_max _).2 (.inr ⟨j, Finset.mem_univ _, hr⟩)
  · exact (Finset.fold_max_lt _).2 ⟨bot_lt_top, fun i _ => h i⟩

/-- A choice by the sign of a truth value. -/
theorem select_ofBool {α : Type} (p : Prop) [Decidable p] (x y : α) : Scalar.select (BitVec.ofBool (decide p)) x y = if p then x else y := by
  by_cases h : p
  · rw [if_pos h, decide_eq_true h]; exact select_one x y
  · rw [if_neg h, decide_eq_false h]; exact select_zero x y

/-- Whether a 0/1 mask entry is above zero. -/
theorem mask_gt {α : Type} (b : Bool) (x y : α) :
    Scalar.select (FloatOps.cmpf (F := Ideal) (φ := .f32) .ogt (cond b (1 : EReal) 0 : EReal) (Ideal.ofBits .f32 0x00000000#32)) x y = cond b x y := by
  rw [ofBits_zero]
  refine (select_ofBool ((0 : EReal) < cond b (1 : EReal) 0) x y).trans ?_
  cases b
  · exact if_neg (lt_irrefl _)
  · exact if_pos zero_lt_one

/-- The saturating exponential as the programs write it. -/
theorem expS_select (x : EReal) : Scalar.select (FloatOps.cmpf (F := Ideal) (φ := .f32) .olt x (Ideal.ofBits .f32 0xC2800000#32)) (Ideal.ofBits .f32 0x114B4EA4#32)
    (Ideal.exp (Scalar.select (FloatOps.cmpf (F := Ideal) (φ := .f32) .olt x (Ideal.ofBits .f32 0xC2800000#32)) (Ideal.ofBits .f32 0xC2800000#32) x)) = expS x := by
  refine (select_ofBool (x < c64) _ _).trans ?_
  unfold expS
  split
  · rfl
  · next h => exact congrArg Ideal.exp ((select_ofBool (x < c64) _ _).trans (if_neg h))

/-- The saturating logarithm as the programs write it. -/
theorem logS_select (x : EReal) : Scalar.select (FloatOps.cmpf (F := Ideal) (φ := .f32) .olt x (Ideal.ofBits .f32 0x114B4EA4#32)) (Ideal.ofBits .f32 0xC2800000#32)
    (Ideal.log (Scalar.select (FloatOps.cmpf (F := Ideal) (φ := .f32) .olt x (Ideal.ofBits .f32 0x114B4EA4#32)) (Ideal.ofBits .f32 0x114B4EA4#32) x)) = logS x := by
  refine (select_ofBool (x < cEps) _ _).trans ?_
  unfold logS
  split
  · rfl
  · next h => exact congrArg Ideal.log ((select_ofBool (x < cEps) _ _).trans (if_neg h))

/-- A step's weight, by the word comparisons of the programs. -/
theorem gain_select (tl : BitVec 32) (n : Nat) (x P : Fin 512 → EReal) (acc : EReal) :
    (acc + Scalar.select (IntOp.cmpi .eq tl (BitVec.ofNat 32 (n + 1))) (ev x P) (Ideal.ofBits .f32 0x00000000#32))
      + Scalar.select (IntOp.cmpi .sgt tl (BitVec.ofNat 32 (n + 1))) (lc x P) (Ideal.ofBits .f32 0x00000000#32) = gain tl n x P acc := by
  rw [ofBits_zero]
  unfold gain
  congr 1
  · congr 1
    refine Eq.trans ?_ (select_ofBool (tl = BitVec.ofNat 32 (n + 1)) _ _)
    exact congrArg (fun w => Scalar.select (BitVec.ofBool w) _ _) (by
      show (tl == BitVec.ofNat 32 (n + 1)) = decide _
      by_cases h : tl = BitVec.ofNat 32 (n + 1) <;> simp [h])
  · refine Eq.trans ?_ (select_ofBool ((BitVec.ofNat 32 (n + 1)).slt tl = true) _ _)
    exact congrArg (fun w => Scalar.select (BitVec.ofBool w) _ _) (by
      show (BitVec.ofNat 32 (n + 1)).slt tl = decide _
      simp)

/-- No inner node is an end node. -/
theorem out_not_end : chk (fun i => cond (isOut i) (!isEnd i) true) 512 = true := by decide +kernel

end Cert.Tree
end
-- ==== Proof.HostRead.lean ====
module

public import Idealize.ShloMosaic.PureOps.Ideal
public import Idealize.ShloMosaic.Lib.ValueIdx
public import Idealize.ShloMosaic.Lib.ValueIdxCore
public import Idealize.ShloMosaic.Lib.Pipeline.Value
public import Idealize.ShloMosaic.Lib.Routing.OpsSet

@[expose] public section

noncomputable section

/-! # Reading columns of a matrix by a list of column numbers

The reference's `x[:, idx]`, `zeros.at[:, idx].set(v)` and `zeros.at[:, idx].add(v)`, read at an entry. -/

namespace Cert.Host

open Idealize.ShloMosaic Idealize.ShloMosaic.ValueIdx

variable {α : Type} {B N K w : Nat}

/-- `x[:, idx]`. -/
def colDims (B N K : Nat) (wf : GatherDims.WF ⟨2, ![B, N]⟩ ⟨2, ![K, 1]⟩ ⟨2, ![B, K]⟩ [0] [1] [] [1] [] 1 ![B, 1]) :
    GatherDims ⟨2, ![B, N]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- `x[:, idx]` at row `b` and place `k`: row `b` of `x` at column `idx k`, when that is a column. -/
theorem gather_col_apply (wf : GatherDims.WF ⟨2, ![B, N]⟩ ⟨2, ![K, 1]⟩ ⟨2, ![B, K]⟩ [0] [1] [] [1] [] 1 ![B, 1])
    (x : (⟨2, ![B, N]⟩ : Shape).Idx → α) (idx : IVec ⟨2, ![K, 1]⟩ w) (b : Fin B) (k : Fin K) (c : Fin N)
    (hc : (idx (ix2 k (0 : Fin 1))).toInt = (c.val : Int)) :
    Host.gather (colDims B N K wf) x idx (ix2 b k) = x (ix2 b c) := by
  unfold Host.gather
  congr 1
  funext a
  refine Fin.ext ?_
  show (colDims B N K wf).start (ix2 b k) idx a + (colDims B N K wf).batchCoord (ix2 b k) a + (colDims B N K wf).offCoord (ix2 b k) a = _
  rw [GatherDims.batchCoord_eq_zero _ _ _ List.not_mem_nil, Nat.add_zero]
  match a with
  | ⟨0, _⟩ =>
    have h0 : (colDims B N K wf).start (ix2 b k) idx (0 : Fin 2) = 0 := by
      unfold GatherDims.start
      exact dif_neg (by show (0 : Fin 2) ∉ [(1 : Fin 2)]; decide)
    show (colDims B N K wf).start (ix2 b k) idx (0 : Fin 2) + _ = _
    rw [h0, Nat.zero_add]
    rfl
  | ⟨1, _⟩ =>
    have h1 : (colDims B N K wf).offCoord (ix2 b k) (1 : Fin 2) = 0 :=
      GatherDims.offCoord_eq_zero _ _ _ (fun h => ((GatherDims.mem_sKept _ _).mp h).1 (List.mem_singleton.mpr rfl))
    show (colDims B N K wf).start (ix2 b k) idx (1 : Fin 2) + (colDims B N K wf).offCoord (ix2 b k) (1 : Fin 2) = _
    rw [h1, Nat.add_zero]
    unfold GatherDims.start
    rw [dif_pos (show (1 : Fin 2) ∈ (colDims B N K wf).startIndexMap from List.mem_singleton.mpr rfl)]
    have hsi : (colDims B N K wf).siIdx (ix2 b k) ⟨List.idxOf (1 : Fin 2) (colDims B N K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, hc]
    show min (Int.toNat (c.val : Int)) (N - 1) = c.val
    have := c.isLt
    rw [Int.toNat_natCast]; omega

/-- `zeros.at[:, idx]`. -/
def colScatter (B N K : Nat) (wf : ScatterDims.WF ⟨2, ![B, N]⟩ ⟨2, ![K, 1]⟩ ⟨2, ![B, K]⟩ [0] [1] [1] 1) :
    ScatterDims ⟨2, ![B, N]⟩ ⟨2, ![K, 1]⟩ ⟨2, ![B, K]⟩ where
  updateWindowDims := [0]
  insertedWindowDims := [1]
  scatterDimsToOperandDims := [1]
  indexVectorDim := 1
  wf := wf

/-- The update of row `b'` at place `k` lands at row `b` and column `c` exactly when `b' = b` and `idx k = c`. -/
theorem scatter_lands (wf : ScatterDims.WF ⟨2, ![B, N]⟩ ⟨2, ![K, 1]⟩ ⟨2, ![B, K]⟩ [0] [1] [1] 1)
    (idx : IVec ⟨2, ![K, 1]⟩ w) (b' : Fin B) (k : Fin K) (b : Fin B) (c : Fin N) :
    (colScatter B N K wf).resultIdx? (ix2 b' k) idx = some (ix2 b c) ↔ b' = b ∧ (idx (ix2 k (0 : Fin 1))).toInt = (c.val : Int) := by
  have s0 : (colScatter B N K wf).start (ix2 b' k) idx (0 : Fin 2) = 0 := by
    unfold ScatterDims.start
    exact dif_neg (by show (0 : Fin 2) ∉ [(1 : Fin 2)]; decide)
  have s1 : (colScatter B N K wf).start (ix2 b' k) idx (1 : Fin 2) = (idx (ix2 k (0 : Fin 1))).toInt := by
    unfold ScatterDims.start
    rw [dif_pos (show (1 : Fin 2) ∈ (colScatter B N K wf).scatterDimsToOperandDims from List.mem_singleton.mpr rfl)]
    have hsi : (colScatter B N K wf).siIdx (ix2 b' k) ⟨List.idxOf (1 : Fin 2) (colScatter B N K wf).scatterDimsToOperandDims,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
  have w0 : (colScatter B N K wf).window (ix2 b' k) (0 : Fin 2) = b'.val := rfl
  have w1 : (colScatter B N K wf).window (ix2 b' k) (1 : Fin 2) = 0 := by
    unfold ScatterDims.window
    exact dif_neg (by show (1 : Fin 2) ∉ [(0 : Fin 2)]; decide)
  unfold ScatterDims.resultIdx?
  constructor
  · intro h
    split at h
    · rename_i hall
      have e := Option.some.inj h
      have e0 := congrArg Fin.val (congrFun e (0 : Fin 2))
      have e1 := congrArg Fin.val (congrFun e (1 : Fin 2))
      have q1 := hall (1 : Fin 2)
      dsimp only at e0 e1
      rw [s0, w0] at e0
      rw [s1, w1] at e1 q1
      change _ = b.val at e0
      change _ = c.val at e1
      refine ⟨Fin.ext (by omega), by omega⟩
    · cases h
  · rintro ⟨rfl, hc⟩
    have hall : ∀ a : Fin 2, 0 ≤ (colScatter B N K wf).start (ix2 b' k) idx a + (colScatter B N K wf).window (ix2 b' k) a
        ∧ (colScatter B N K wf).start (ix2 b' k) idx a + (colScatter B N K wf).window (ix2 b' k) a < (⟨2, ![B, N]⟩ : Shape).size a := by
      intro a
      match a with
      | ⟨0, _⟩ =>
        show 0 ≤ (colScatter B N K wf).start (ix2 b' k) idx (0 : Fin 2) + (colScatter B N K wf).window (ix2 b' k) (0 : Fin 2) ∧ (colScatter B N K wf).start (ix2 b' k) idx (0 : Fin 2) + (colScatter B N K wf).window (ix2 b' k) (0 : Fin 2) < (B : Int)
        rw [s0, w0]; have := b'.isLt; omega
      | ⟨1, _⟩ =>
        show 0 ≤ (colScatter B N K wf).start (ix2 b' k) idx (1 : Fin 2) + (colScatter B N K wf).window (ix2 b' k) (1 : Fin 2) ∧ (colScatter B N K wf).start (ix2 b' k) idx (1 : Fin 2) + (colScatter B N K wf).window (ix2 b' k) (1 : Fin 2) < (N : Int)
        rw [s1, w1, hc]; have := c.isLt; omega
    rw [dif_pos hall]
    congr 1
    funext a
    refine Fin.ext ?_
    match a with
    | ⟨0, _⟩ =>
      show ((colScatter B N K wf).start (ix2 b' k) idx (0 : Fin 2) + (colScatter B N K wf).window (ix2 b' k) (0 : Fin 2)).toNat = b'.val
      rw [s0, w0]; omega
    | ⟨1, _⟩ =>
      show ((colScatter B N K wf).start (ix2 b' k) idx (1 : Fin 2) + (colScatter B N K wf).window (ix2 b' k) (1 : Fin 2)).toNat = c.val
      rw [s1, w1, hc]; omega

/-- `zeros.at[:, idx].set(v)`, `v` constant, at a column in the list. -/
theorem scatter_set_col_hit (wf : ScatterDims.WF ⟨2, ![B, N]⟩ ⟨2, ![K, 1]⟩ ⟨2, ![B, K]⟩ [0] [1] [1] 1)
    (x0 : (⟨2, ![B, N]⟩ : Shape).Idx → α) (idx : IVec ⟨2, ![K, 1]⟩ w) (upd : (⟨2, ![B, K]⟩ : Shape).Idx → α) (v : α)
    (hv : ∀ j, upd j = v) (b : Fin B) (c : Fin N) (k : Fin K) (hc : (idx (ix2 k (0 : Fin 1))).toInt = (c.val : Int)) :
    Host.scatter (colScatter B N K wf) (fun _ b => b) x0 idx upd (ix2 b c) = v :=
  Routing.scatter_set_hit _ x0 idx upd _ v (fun j _ => hv j) (ix2 b k) ((scatter_lands wf idx b k b c).2 ⟨rfl, hc⟩)

/-- The same at a column that is not in the list. -/
theorem scatter_set_col_miss (wf : ScatterDims.WF ⟨2, ![B, N]⟩ ⟨2, ![K, 1]⟩ ⟨2, ![B, K]⟩ [0] [1] [1] 1)
    (x0 : (⟨2, ![B, N]⟩ : Shape).Idx → α) (idx : IVec ⟨2, ![K, 1]⟩ w) (upd : (⟨2, ![B, K]⟩ : Shape).Idx → α)
    (b : Fin B) (c : Fin N) (hc : ∀ k : Fin K, (idx (ix2 k (0 : Fin 1))).toInt ≠ (c.val : Int)) :
    Host.scatter (colScatter B N K wf) (fun _ b => b) x0 idx upd (ix2 b c) = x0 (ix2 b c) :=
  Routing.scatter_set_miss _ x0 idx upd _ fun j h => by
    rw [eq_ix2 j] at h
    exact hc _ ((scatter_lands wf idx _ _ b c).1 h).2

/-- `zeros.at[:, idx].add(v)` at row `b` and column `c`: the sum of row `b` of `v` over the places where `idx` is `c`. -/
theorem scatter_add_col (wf : ScatterDims.WF ⟨2, ![B, N]⟩ ⟨2, ![K, 1]⟩ ⟨2, ![B, K]⟩ [0] [1] [1] 1)
    (x0 : (⟨2, ![B, N]⟩ : Shape).Idx → EReal) (idx : IVec ⟨2, ![K, 1]⟩ w) (upd : (⟨2, ![B, K]⟩ : Shape).Idx → EReal)
    (b : Fin B) (c : Fin N) :
    Ideal.hostScatterAdd (colScatter B N K wf) x0 idx upd (ix2 b c)
      = x0 (ix2 b c) + ∑ k : Fin K, if (idx (ix2 k (0 : Fin 1))).toInt = (c.val : Int) then upd (ix2 b k) else 0 := by
  unfold Ideal.hostScatterAdd
  congr 1
  rw [Finset.sum_filter, sum_idx2]
  rw [Finset.sum_eq_single b]
  · refine Finset.sum_congr rfl fun k _ => ?_
    simp only [scatter_lands wf idx b k b c, true_and]
  · intro b' _ hb
    refine Finset.sum_eq_zero fun k _ => ?_
    simp only [scatter_lands wf idx b' k b c, hb, false_and, if_false]
  · intro h; exact absurd (Finset.mem_univ _) h

/-- `zeros.at[rows, cols]`, the rows and columns given by the two columns of a list. -/
def pointScatter (M N K : Nat) (wf : ScatterDims.WF ⟨2, ![M, N]⟩ ⟨2, ![K, 2]⟩ ⟨1, ![K]⟩ [] [0, 1] [0, 1] 1) :
    ScatterDims ⟨2, ![M, N]⟩ ⟨2, ![K, 2]⟩ ⟨1, ![K]⟩ where
  updateWindowDims := []
  insertedWindowDims := [0, 1]
  scatterDimsToOperandDims := [0, 1]
  indexVectorDim := 1
  wf := wf

/-- The update at place `k` lands at row `r` and column `c` exactly when these are the list's entry `k`. -/
theorem point_lands {M : Nat} (wf : ScatterDims.WF ⟨2, ![M, N]⟩ ⟨2, ![K, 2]⟩ ⟨1, ![K]⟩ [] [0, 1] [0, 1] 1)
    (idx : IVec ⟨2, ![K, 2]⟩ w) (k : Fin K) (r : Fin M) (c : Fin N) :
    (pointScatter M N K wf).resultIdx? (ix1 k) idx = some (ix2 r c)
      ↔ (idx (ix2 k (0 : Fin 2))).toInt = (r.val : Int) ∧ (idx (ix2 k (1 : Fin 2))).toInt = (c.val : Int) := by
  have hm : ∀ a : Fin 2, a ∈ (pointScatter M N K wf).scatterDimsToOperandDims := fun a => by
    show a ∈ [(0 : Fin 2), 1]; revert a; decide
  have s0 : (pointScatter M N K wf).start (ix1 k) idx (0 : Fin 2) = (idx (ix2 k (0 : Fin 2))).toInt := by
    unfold ScatterDims.start
    rw [dif_pos (hm 0)]
    have hsi : (pointScatter M N K wf).siIdx (ix1 k) ⟨List.idxOf (0 : Fin 2) (pointScatter M N K wf).scatterDimsToOperandDims,
        List.idxOf_lt_length_iff.2 (hm 0)⟩ = ix2 k (0 : Fin 2) := by
      funext b; refine Fin.ext ?_
      match b with
      | ⟨0, _⟩ => rfl
      | ⟨1, _⟩ => rfl
    rw [hsi]
  have s1 : (pointScatter M N K wf).start (ix1 k) idx (1 : Fin 2) = (idx (ix2 k (1 : Fin 2))).toInt := by
    unfold ScatterDims.start
    rw [dif_pos (hm 1)]
    have hsi : (pointScatter M N K wf).siIdx (ix1 k) ⟨List.idxOf (1 : Fin 2) (pointScatter M N K wf).scatterDimsToOperandDims,
        List.idxOf_lt_length_iff.2 (hm 1)⟩ = ix2 k (1 : Fin 2) := by
      funext b; refine Fin.ext ?_
      match b with
      | ⟨0, _⟩ => rfl
      | ⟨1, _⟩ => rfl
    rw [hsi]
  have w0 : ∀ a : Fin 2, (pointScatter M N K wf).window (ix1 k) a = 0 := fun a => by
    unfold ScatterDims.window
    exact dif_neg (by show a ∉ (List.finRange 2).filter fun d => !([0, 1] : List (Fin 2)).contains d; revert a; decide)
  unfold ScatterDims.resultIdx?
  constructor
  · intro h
    split at h
    · rename_i hall
      have e := Option.some.inj h
      have e0 := congrArg Fin.val (congrFun e (0 : Fin 2))
      have e1 := congrArg Fin.val (congrFun e (1 : Fin 2))
      have q0 := hall (0 : Fin 2)
      have q1 := hall (1 : Fin 2)
      dsimp only at e0 e1
      rw [s0, w0] at e0 q0
      rw [s1, w0] at e1 q1
      change _ = r.val at e0
      change _ = c.val at e1
      exact ⟨by omega, by omega⟩
    · cases h
  · rintro ⟨hr, hc⟩
    have hall : ∀ a : Fin 2, 0 ≤ (pointScatter M N K wf).start (ix1 k) idx a + (pointScatter M N K wf).window (ix1 k) a
        ∧ (pointScatter M N K wf).start (ix1 k) idx a + (pointScatter M N K wf).window (ix1 k) a < (⟨2, ![M, N]⟩ : Shape).size a := by
      intro a
      match a with
      | ⟨0, _⟩ =>
        show 0 ≤ (pointScatter M N K wf).start (ix1 k) idx (0 : Fin 2) + (pointScatter M N K wf).window (ix1 k) (0 : Fin 2) ∧ (pointScatter M N K wf).start (ix1 k) idx (0 : Fin 2) + (pointScatter M N K wf).window (ix1 k) (0 : Fin 2) < (M : Int)
        rw [s0, w0, hr]; have := r.isLt; omega
      | ⟨1, _⟩ =>
        show 0 ≤ (pointScatter M N K wf).start (ix1 k) idx (1 : Fin 2) + (pointScatter M N K wf).window (ix1 k) (1 : Fin 2) ∧ (pointScatter M N K wf).start (ix1 k) idx (1 : Fin 2) + (pointScatter M N K wf).window (ix1 k) (1 : Fin 2) < (N : Int)
        rw [s1, w0, hc]; have := c.isLt; omega
    rw [dif_pos hall]
    congr 1
    funext a
    refine Fin.ext ?_
    match a with
    | ⟨0, _⟩ =>
      show ((pointScatter M N K wf).start (ix1 k) idx (0 : Fin 2) + (pointScatter M N K wf).window (ix1 k) (0 : Fin 2)).toNat = r.val
      rw [s0, w0, hr]; omega
    | ⟨1, _⟩ =>
      show ((pointScatter M N K wf).start (ix1 k) idx (1 : Fin 2) + (pointScatter M N K wf).window (ix1 k) (1 : Fin 2)).toNat = c.val
      rw [s1, w0, hc]; omega

/-- `zeros.at[rows, cols].set(v)`, `v` constant, at a listed entry. -/
theorem scatter_set_point_hit {M : Nat} (wf : ScatterDims.WF ⟨2, ![M, N]⟩ ⟨2, ![K, 2]⟩ ⟨1, ![K]⟩ [] [0, 1] [0, 1] 1)
    (x0 : (⟨2, ![M, N]⟩ : Shape).Idx → α) (idx : IVec ⟨2, ![K, 2]⟩ w) (upd : (⟨1, ![K]⟩ : Shape).Idx → α) (v : α)
    (hv : ∀ j, upd j = v) (r : Fin M) (c : Fin N) (k : Fin K)
    (h : (idx (ix2 k (0 : Fin 2))).toInt = (r.val : Int) ∧ (idx (ix2 k (1 : Fin 2))).toInt = (c.val : Int)) :
    Host.scatter (pointScatter M N K wf) (fun _ b => b) x0 idx upd (ix2 r c) = v :=
  Routing.scatter_set_hit _ x0 idx upd _ v (fun j _ => hv j) (ix1 k) ((point_lands wf idx k r c).2 h)

/-- The same at an entry that is not listed. -/
theorem scatter_set_point_miss {M : Nat} (wf : ScatterDims.WF ⟨2, ![M, N]⟩ ⟨2, ![K, 2]⟩ ⟨1, ![K]⟩ [] [0, 1] [0, 1] 1)
    (x0 : (⟨2, ![M, N]⟩ : Shape).Idx → α) (idx : IVec ⟨2, ![K, 2]⟩ w) (upd : (⟨1, ![K]⟩ : Shape).Idx → α) (r : Fin M) (c : Fin N)
    (h : ∀ k : Fin K, ¬((idx (ix2 k (0 : Fin 2))).toInt = (r.val : Int) ∧ (idx (ix2 k (1 : Fin 2))).toInt = (c.val : Int))) :
    Host.scatter (pointScatter M N K wf) (fun _ b => b) x0 idx upd (ix2 r c) = x0 (ix2 r c) :=
  Routing.scatter_set_miss _ x0 idx upd _ fun j hj => by
    rw [eq_ix1 j] at hj
    exact h _ ((point_lands wf idx _ r c).1 hj)

/-- A word that reads a small number unsigned reads the same number signed. -/
theorem toInt_small (x : BitVec 32) (h : x.toNat < 512) : x.toInt = (x.toNat : Int) :=
  BitVec.toInt_eq_toNat_of_lt (by omega)

/-- An index list as the gathers and scatters take it: the wrap of negative entries is not taken. -/
theorem list_apply (mask : IVec ⟨1, ![K]⟩ 1) (sh idx : IVec ⟨1, ![K]⟩ 32)
    (h : (⟨1, ![K]⟩ : Shape).BroadcastsInDim ⟨2, ![K, 1]⟩ (![0] : Fin 1 → Fin 2)) (hm : ∀ i, mask i = 0#1) (k : Fin K) :
    broadcastInDim ⟨2, ![K, 1]⟩ (![0] : Fin 1 → Fin 2) h (select mask sh idx) (ix2 k (0 : Fin 1)) = idx (ix1 k) := by
  refine (broadcastInDim_apply _ h _ (ix2 k (0 : Fin 1)) (ix1 k) fun a => ?_).trans ?_
  · match a with
    | ⟨0, _⟩ =>
      show k.val = if K = 1 then 0 else k.val
      split
      · have := k.isLt; omega
      · rfl
  · show Scalar.select (mask (ix1 k)) _ _ = _
    rw [hm]; exact select_zero _ _

end Cert.Host
end
-- ==== Proof.KernelValue.lean ====
module

public import proofs.«01_k».proof.Proof.KernelIdealRun
public import Idealize.ShloMosaic.Lib.Pipeline.Value
public import Idealize.ShloMosaic.Lib.StableHlo.Run
public import Idealize.ShloMosaic.Lib.Tactic

@[expose] public section

noncomputable section

/-! # What the second region leaves in its result, from what the first left in the gathered array

The region finds the gathered array, the transition matrix, the masks and the lengths. Its result array is the negated
accumulator after 64 trips.
-/

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Run

variable {F : FTy → Type} [FloatOps F]

variable (m : (ℓ : Loc nD τ sig) → Buf (Elt F) ℓ) (ρ : Dev nD → PrngReg)

/-- The second grid has one point. -/
theorem N1 : cfg1.N = 1 := by decide +kernel

/-- The grid's point. -/
def pt : Fin cfg1.N := ⟨0, by rw [N1]; decide⟩

/-- A list of 1434 numbers as a column, negative ones wrapped (there are none). -/
abbrev listCol (l : Fin 1434 → BitVec 32) : IVec S1434x1 32 :=
  broadcastInDim S1434x1 ![0] bcast_S1434_S1434x1_0 (select (constantI S1434 1 0#1)
    (addi (fun i => l (S1434.rowMajor i)) (broadcastInDim S1434 ![] bcast_S_S1434 (constantI S_ 32 512#32))) (fun i => l (S1434.rowMajor i)))

/-- The edges' sources and targets, in two columns. -/
abbrev edges : IVec S1434x2 32 :=
  concatenate S1434x2 1 [⟨S1434x1, listCol lit0⟩, ⟨S1434x1, listCol lit1⟩] concatenates_S1434x1_S1434x1_S1434x2_d1

/-- The transition matrix as the region finds it. -/
abbrev matrix : Vec F S512x512 .f32 :=
  Host.scatter scatter_S512x512_S1434x2_S1434_n_01_01_1 (fun _ b => b)
    (broadcastInDim S512x512 ![] bcast_S_S512x512 (constant (F := F) S_ .f32 0x00000000#32)) edges
    (broadcastInDim S1434 ![] bcast_S_S1434 (constant (F := F) S_ .f32 0x3F800000#32))
/-- The masks as the region finds them. -/
abbrev masks : Vec F S8x512 .f32 := fun i => FloatOps.ofBits .f32 (lit2 (S8x512.rowMajor i))

/-- The host stretch between the regions, from any contents: the matrix, -/
theorem host1_matrix (W : Valuation τ sig (Elt F)) (h0 : W (Proc.devRef .tc main_c) = fun i => lit0 (S1434.rowMajor i))
    (h1 : W (Proc.devRef .tc main_c_0) = constantI S1434 1 0#1) (h2 : W (Proc.devRef .tc main_c_1) = fun i => lit1 (S1434.rowMajor i))
    (h3 : W (Proc.devRef .tc main_c_2) = constantI S1434 1 0#1) :
    StableHlo.after hostOps1 W (Proc.devRef .tc main_v14) = (matrix : Vec F S512x512 .f32) := by
  unfold hostOps1
  after_results
  rw [h0, h1, h2, h3]
/-- and the lengths' column. -/
theorem host1_lengths (W : Valuation τ sig (Elt F)) :
    StableHlo.after hostOps1 W (Proc.devRef .tc main_v15)
      = (shapeCast S128x1 (W (Proc.devRef .tc main_arg2) : Vec F S128 .i32) shapeCasts_S128_S128x1 : Vec F S128x1 .i32) := by
  unfold hostOps1
  after_results
  rfl

theorem V1_c (c : Dev nD) : V1 m c main_c = fun i => lit0 (S1434.rowMajor i) := by
  unfold V1 V0 hostOps0
  after_results
  rfl
theorem V1_c0 (c : Dev nD) : V1 m c main_c_0 = constantI S1434 1 0#1 := by
  unfold V1 V0 hostOps0
  after_results
theorem V1_c1 (c : Dev nD) : V1 m c main_c_1 = fun i => lit1 (S1434.rowMajor i) := by
  unfold V1 V0 hostOps0
  after_results
  rfl
theorem V1_c2 (c : Dev nD) : V1 m c main_c_2 = constantI S1434 1 0#1 := by
  unfold V1 V0 hostOps0
  after_results
theorem V1_cst (c : Dev nD) : V1 m c main_cst = (masks : Vec F S8x512 .f32) := by
  unfold V1 V0 hostOps0
  after_results
  rfl
/-- The targets by rows of eight sequences, as the first region finds them. -/
theorem V1_v1 (c : Dev nD) : V1 m c main_v1 = (shapeCast S16x8x64 (transpose S128x64 [1, 0]
    (m ((c : Thread nD τ).loc main_arg1) : Vec F S64x128 .i32) transposes_S64x128_S128x64_1_0) shapeCasts_S128x64_S16x8x64 : Vec F S16x8x64 .i32) := by
  unfold V1 V0 hostOps0
  after_results
  rfl

variable (x : Gath2 F)

theorem W3_v2 (c : Dev nD) : W3 m x c main_v2 = x := (W3_of m x c main_v2 (by decide)).trans (W2_self m x c)
theorem W3_v14 (c : Dev nD) : W3 m x c main_v14 = (matrix : Vec F S512x512 .f32) :=
  host1_matrix _ ((W2_of m x c main_c (by decide)).trans (V1_c m c)) ((W2_of m x c main_c_0 (by decide)).trans (V1_c0 m c))
    ((W2_of m x c main_c_1 (by decide)).trans (V1_c1 m c)) ((W2_of m x c main_c_2 (by decide)).trans (V1_c2 m c))
theorem W3_cst (c : Dev nD) : W3 m x c main_cst = (masks : Vec F S8x512 .f32) :=
  (W3_of m x c main_cst (by decide)).trans ((W2_of m x c main_cst (by decide)).trans (V1_cst m c))
theorem W3_v15 (c : Dev nD) : W3 m x c main_v15 = (shapeCast S128x1 (m ((c : Thread nD τ).loc main_arg2)) shapeCasts_S128_S128x1 : Vec F S128x1 .i32) :=
  (host1_lengths _).trans (congrArg (fun t : Vec F S128 .i32 => shapeCast S128x1 t shapeCasts_S128_S128x1)
    ((W2_of m x c main_arg2 (by decide)).trans (V1_of m c main_arg2 (by decide))))

theorem blk1_0 (c : Dev nD) (t : Fin cfg1.N) : (blk1 m x c 0 t : Vec F S64x128x512 .f32) = x := by
  unfold blk1
  have hz' : (fun a => win1_0.index t a * main_v2.ty.shape.size a) = fun _ => 0 := funext fun a => by
    fin_cases a <;> exact Nat.zero_mul _
  exact (Memref.read_access_unit_zero (Elt F) main_v2 hz' (fun a => by rw [congrFun hz' a]; simp) _).trans (W3_v2 m x c)
theorem blk1_1 (c : Dev nD) (t : Fin cfg1.N) : (blk1 m x c 1 t : Vec F S512x512 .f32) = matrix := by
  unfold blk1
  have hz' : (fun a => win1_1.index t a * main_v14.ty.shape.size a) = fun _ => 0 := funext fun a => by
    fin_cases a <;> exact Nat.zero_mul _
  exact (Memref.read_access_unit_zero (Elt F) main_v14 hz' (fun a => by rw [congrFun hz' a]; simp) _).trans (W3_v14 m x c)
theorem blk1_2 (c : Dev nD) (t : Fin cfg1.N) : (blk1 m x c 2 t : Vec F S8x512 .f32) = masks := by
  unfold blk1
  have hz' : (fun a => win1_2.index t a * main_cst.ty.shape.size a) = fun _ => 0 := funext fun a => by
    fin_cases a <;> exact Nat.zero_mul _
  exact (Memref.read_access_unit_zero (Elt F) main_cst hz' (fun a => by rw [congrFun hz' a]; simp) _).trans (W3_cst m x c)
theorem blk1_3 (c : Dev nD) (t : Fin cfg1.N) :
    (blk1 m x c 3 t : Vec F S128x1 .i32) = shapeCast S128x1 (m ((c : Thread nD τ).loc main_arg2)) shapeCasts_S128_S128x1 := by
  unfold blk1
  have hz' : (fun a => win1_3.index t a * main_v15.ty.shape.size a) = fun _ => 0 := funext fun a => by
    fin_cases a <;> exact Nat.zero_mul _
  exact (Memref.read_access_unit_zero (Elt F) main_v15 hz' (fun a => by rw [congrFun hz' a]; simp) _).trans (W3_v15 m x c)

/-- Row `r` of the masks, as the body loads it. -/
abbrev maskRow (r : Nat) (inb : ∀ a, (![r, 0] : Fin 2 → Nat) a + S1x512.size a ≤ S8x512.size a) : Vec F S1x512 .f32 :=
  View.ld (masks : Vec F S8x512 .f32) (Rect.unit ![r, 0] S1x512.size inb)

/-- The column the kernel writes, from the values of its two arguments. -/
def column (x0 : Vec F S64x128x512 .f32) (tl : Vec F S128 .i32) : Vec F S128x1 .f32 :=
  k1_pay5 (kiter (maskRow 0 inb_S8x512_S1x512_0_0) (maskRow 1 inb_S8x512_S1x512_1_0)
    (shapeCast S128x1 tl shapeCasts_S128_S128x1) matrix x0 (k1_pay2, k1_pay1 (maskRow 2 inb_S8x512_S1x512_2_0)) 64).1

/-- That column as contents of the region's result array. -/
abbrev result (c : Dev nD) : Buf (Elt F) ((c : Thread nD τ).loc main_v16) := column x (m ((c : Thread nD τ).loc main_arg2))

theorem outs_eq (c : Dev nD) (t : Fin cfg1.N) :
    loopBlock (blk1 m x c 0 t) (blk1 m x c 1 t) (blk1 m x c 2 t) (blk1 m x c 3 t) = result m x c := by
  rw [blk1_0 m x c t, blk1_1 m x c t, blk1_2 m x c t, blk1_3 m x c t]
  rfl

theorem flushed_eq (c : Dev nD) (t : Fin cfg1.N) (hf : (cfg1.win 4).flush t = true) :
    (dat1 m x c).flushed 4 t = ((cfg1.win 4).blk t).view.read (Elt F) (result m x c) := by
  show (cfg1.win 4).cut (grid1.coords t) ((dat1 m x c).after 4 t) = _
  rw [after1_4, outs_eq]
  have hz' : (fun a => win1_4.index t a * main_v16.ty.shape.size a) = fun _ => 0 := funext fun a => by
    fin_cases a <;> exact Nat.zero_mul _
  exact (Memref.read_access_unit_zero (Elt F) main_v16 hz' (fun a => by rw [congrFun hz' a]; simp) (result m x c)).symm

theorem final_o (c : Dev nD) : (dat1 m x c).arrAt 4 cfg1.N = result m x c :=
  (dat1 m x c).arrAt_eq_of_cover 4 (result m x c) (flushed_eq m x c) fun i =>
    ⟨pt, flush1_4 _, by
      show i ∈ ((View.whole main_v16).slice (win1_4.rect pt)).set
      rw [View.set_slice_whole]
      have hz' : (fun a => win1_4.index pt a * main_v16.ty.shape.size a) = fun _ => 0 := funext fun a => by
        fin_cases a <;> exact Nat.zero_mul _
      exact View.mem_set_unit_zero (S := main_v16.ty.shape) hz' (fun a => by rw [congrFun hz' a]; simp) i⟩

/-- The program's result. -/
theorem W5_v17 (c : Dev nD) : W5 m x c main_v17
    = (shapeCast S128 (column x (m ((c : Thread nD τ).loc main_arg2))) shapeCasts_S128x1_S128 : Vec F S128 .f32) := by
  show StableHlo.after hostOps2 (W4 m x c) main_v17 = _
  unfold hostOps2
  rw [StableHlo.after_cons, StableHlo.after_nil, StableHlo.reshape_result]
  exact congrArg (fun x : Vec F S128x1 .f32 => shapeCast S128 x shapeCasts_S128x1_S128) ((W4_self m x c).trans (final_o m x c))

end Cert.KernelIdeal.Value
end
-- ==== Proof.KernelStep.lean ====
module

public import proofs.«01_k».proof.Proof.Layout
public import proofs.«01_k».proof.Proof.HostRead
public import proofs.«01_k».proof.Proof.KernelValue

@[expose] public section

noncomputable section

/-! # The kernel's trip on the extended reals is a step of the recursion -/

open Idealize.ShloMosaic Idealize.ShloMosaic.ValueIdx Idealize.ShloMosaic.TcCoe Cert.Tree

namespace Cert.KernelIdeal.Value

open Cert.KernelIdeal Cert.KernelIdeal.Gen

/-- The row of a 0/1 mask. -/
def IsMask (p : Nat → Bool) (v : FVec Ideal S1x512 .f32) : Prop := ∀ j : Fin 512, v (ix2 (0 : Fin 1) j) = cond (p j.val) (1 : EReal) 0

theorem lift_eq (b : Fin 128) (k : Fin 512) : (reduces_S128x512_S128 : S128x512.Reduces [1] S128).lift (ix1 b) k = ix2 b k := by
  funext a; match a with | ⟨0, _⟩ => rfl | ⟨1, _⟩ => rfl

/-- A row maximum as a fold. -/
theorem max_apply (v : FVec Ideal S128x512 .f32) (b : Fin 128) :
    shapeCast S128x1 (multiReduction .maximumf [1] S128 v 0xFF800000#32 reduces_S128x512_S128 (.inl rfl) rfl) shapeCasts_S128_S128x1 (ix2 b (0 : Fin 1))
      = (Finset.univ : Finset (Fin 512)).fold max ⊥ (fun j => v (ix2 b j)) := by
  refine (shapeCast_a_a1_apply _ _ b 0).trans ?_
  refine (Ideal.multiReduction_maximumf_single v _ reduces_S128x512_S128 _ _ (ix1 b)).trans ?_
  have h0 : (FloatOps.ofBits (F := Ideal) .f32 0xFF800000#32 : EReal) = ⊥ := ofBits_bot
  have h1 : (v ∘ (reduces_S128x512_S128 : S128x512.Reduces [1] S128).lift (ix1 b)) = fun j : Fin 512 => v (ix2 b j) :=
    funext fun j => congrArg v (lift_eq b j)
  exact (congrArg (fun z => (Finset.univ : Finset (Fin 512)).fold max z _) h0).trans (congrArg (fun f => (Finset.univ : Finset (Fin 512)).fold max ⊥ f) h1)

/-- A row sum. -/
theorem sum_apply (v : FVec Ideal S128x512 .f32) (b : Fin 128) :
    shapeCast S128x1 (multiReduction .add [1] S128 v 0x00000000#32 reduces_S128x512_S128 (.inl rfl) rfl) shapeCasts_S128_S128x1 (ix2 b (0 : Fin 1))
      = ∑ j : Fin 512, v (ix2 b j) := by
  refine (shapeCast_a_a1_apply _ _ b 0).trans ?_
  refine (Ideal.multiReduction_add_single v _ reduces_S128x512_S128 _ _ (ix1 b)).trans ?_
  exact Finset.sum_congr rfl fun j _ => congrArg v (lift_eq b j)

section Step

variable {v0 v1 : FVec Ideal S1x512 .f32} (h0 : IsMask isOut v0) (h1 : IsMask isEnd v1)
  (v22 : FVec Ideal S128x512 .f32) (v24 : FVec Ideal S1x128x512 .f32) (b : Fin 128) (x P : Fin 512 → EReal)
  (hx : ∀ j, x j < ⊤) (hP : ∀ j, P j < ⊤)
  (h22 : ∀ j, v22 (ix2 b j) = logS (P j)) (h24 : ∀ j, v24 (ix3 (0 : Fin 1) b j) = x j)

include h22 h24 in
theorem pay6_apply (j : Fin 512) : k1_pay6 (F := Ideal) v22 v24 (ix2 b j) = curr x P j := by
  show v22 (ix2 b j) + shapeCast S128x512 v24 shapeCasts_S1x128x512_S128x512 (ix2 b j) = _
  rw [h22 j, show shapeCast S128x512 v24 shapeCasts_S1x128x512_S128x512 (ix2 b j) = v24 (ix3 (0 : Fin 1) b j) from shapeCast_1ab_ab_apply _ _ b j, h24 j]
  rfl

/-- A choice by a mask row repeated along the batch. -/
theorem mask_select {p : Nat → Bool} {v : FVec Ideal S1x512 .f32} (h : IsMask p v) (y z : EReal) (j : Fin 512) :
    Scalar.select (broadcastTo S128x512 (shapeCast S1x512 (cmpf .ogt v (broadcast S1x512 (Scalar.ofBits (F := Ideal) .f32 0x00000000#32))) shapeCasts_S1x512_S1x512)
      broadcasts_S1x512_S128x512 (ix2 b j)) y z = cond (p j.val) y z := by
  rw [show broadcastTo S128x512 (shapeCast S1x512 (cmpf .ogt v (broadcast S1x512 (Scalar.ofBits (F := Ideal) .f32 0x00000000#32))) shapeCasts_S1x512_S1x512)
      broadcasts_S1x512_S128x512 (ix2 b j) = _ from broadcastTo_1b_ab_apply _ _ b j, same_cast]
  show Scalar.select (FloatOps.cmpf (F := Ideal) (φ := .f32) .ogt (v (ix2 (0 : Fin 1) j)) (Ideal.ofBits .f32 0x00000000#32)) y z = _
  rw [h j]
  exact mask_gt _ _ _

include h0 hx hP h22 h24 in
/-- The maximum over the inner nodes is a real number. -/
theorem pay7_real : ∃ m : ℝ, k1_pay7 (F := Ideal) v0 v22 v24 (ix2 b (0 : Fin 1)) = (m : EReal) := by
  have e : k1_pay7 (F := Ideal) v0 v22 v24 (ix2 b (0 : Fin 1)) = (Finset.univ : Finset (Fin 512)).fold max ⊥ (fun j => cond (isOut j.val) (curr x P j) cBig) := by
    refine (max_apply _ b).trans (congrArg (fun f => (Finset.univ : Finset (Fin 512)).fold max ⊥ f) (funext fun j => ?_))
    refine (mask_select b h0 _ _ j).trans ?_
    rw [pay6_apply v22 v24 b x P h22 h24 j]; rfl
  obtain ⟨r, hr⟩ := cBig_real
  rw [e]
  refine fold_real _ r ⟨511, by decide⟩ ?_ fun i => ?_
  · rw [show isOut 511 = false from by decide, ← hr]; exact le_rfl
  · cases isOut i.val
    · exact hr ▸ EReal.coe_lt_top r
    · exact curr_lt_top hx hP i

include h1 hx hP h22 h24 in
/-- The maximum over the end nodes is a real number. -/
theorem pay8_real : ∃ m : ℝ, k1_pay8 (F := Ideal) v1 v22 v24 (ix2 b (0 : Fin 1)) = (m : EReal) := by
  have e : k1_pay8 (F := Ideal) v1 v22 v24 (ix2 b (0 : Fin 1)) = (Finset.univ : Finset (Fin 512)).fold max ⊥ (fun j => cond (isEnd j.val) (curr x P j) cBig) := by
    refine (max_apply _ b).trans (congrArg (fun f => (Finset.univ : Finset (Fin 512)).fold max ⊥ f) (funext fun j => ?_))
    refine (mask_select b h1 _ _ j).trans ?_
    rw [pay6_apply v22 v24 b x P h22 h24 j]; rfl
  obtain ⟨r, hr⟩ := cBig_real
  rw [e]
  refine fold_real _ r ⟨511, by decide⟩ ?_ fun i => ?_
  · rw [show isEnd 511 = false from by decide, ← hr]; exact le_rfl
  · cases isEnd i.val
    · exact hr ▸ EReal.coe_lt_top r
    · exact curr_lt_top hx hP i

include h1 h22 h24 in
/-- The shifted exponentials: the end nodes are shifted by their own maximum. -/
theorem pay9_apply (j : Fin 512) : k1_pay9 (F := Ideal) v0 v1 v22 v24 (ix2 b j)
    = Ideal.exp (curr x P j - cond (isEnd j.val) (k1_pay8 (F := Ideal) v1 v22 v24 (ix2 b (0 : Fin 1))) (k1_pay7 (F := Ideal) v0 v22 v24 (ix2 b (0 : Fin 1)))) := by
  have e1 : broadcastTo S128x512 (shapeCast S128x1 (k1_pay8 (F := Ideal) v1 v22 v24) shapeCasts_S128x1_S128x1) broadcasts_S128x1_S128x512 (ix2 b j)
      = k1_pay8 (F := Ideal) v1 v22 v24 (ix2 b (0 : Fin 1)) := (col_broadcast _ _ b j).trans (same_cast _ _ _)
  have e2 : broadcastTo S128x512 (shapeCast S128x1 (k1_pay7 (F := Ideal) v0 v22 v24) shapeCasts_S128x1_S128x1) broadcasts_S128x1_S128x512 (ix2 b j)
      = k1_pay7 (F := Ideal) v0 v22 v24 (ix2 b (0 : Fin 1)) := (col_broadcast _ _ b j).trans (same_cast _ _ _)
  rw [← mask_select b h1, ← e1, ← e2, ← pay6_apply v22 v24 b x P h22 h24 j]
  rfl

/-- A sum weighted by a mask is a sum over the masked set. -/
theorem sum_mask (p : Nat → Bool) (f : Fin 512 → EReal) :
    (∑ j : Fin 512, f j * cond (p j.val) (1 : EReal) 0) = ∑ j ∈ Finset.univ.filter (fun i : Fin 512 => p i.val = true), f j := by
  rw [Finset.sum_filter]
  refine Finset.sum_congr rfl fun j _ => ?_
  cases p j.val
  · rw [if_neg Bool.false_ne_true]; exact mul_zero _
  · rw [if_pos rfl]; exact mul_one _

include h0 h1 hx hP h22 h24 in
/-- The logarithm of the total weight of the inner nodes. -/
theorem pay10_apply : k1_pay10 (F := Ideal) v0 v1 v22 v24 (ix2 b (0 : Fin 1)) = lc x P := by
  obtain ⟨m, hm⟩ := pay7_real h0 v22 v24 b x P hx hP h22 h24
  have e : shapeCast S128x1 (multiReduction .add [1] S128 (mulf (k1_pay9 (F := Ideal) v0 v1 v22 v24) (broadcastTo S128x512 v0 broadcasts_S1x512_S128x512)) 0x00000000#32
      reduces_S128x512_S128 (.inl rfl) rfl) shapeCasts_S128_S128x1 (ix2 b (0 : Fin 1)) = ∑ j ∈ outS, Ideal.exp (curr x P j - (m : EReal)) := by
    refine (sum_apply _ b).trans ?_
    refine Eq.trans ?_ ((sum_mask isOut fun j => k1_pay9 (F := Ideal) v0 v1 v22 v24 (ix2 b j)).trans (Finset.sum_congr rfl fun j hj => ?_))
    · refine Finset.sum_congr rfl fun j _ => ?_
      exact congrArg (fun z : EReal => k1_pay9 (F := Ideal) v0 v1 v22 v24 (ix2 b j) * z) ((broadcastTo_1b_ab_apply _ _ b j).trans (h0 j))
    · rw [pay9_apply h1 v22 v24 b x P h22 h24 j, hm]
      have ho : isOut j.val = true := (mem_outS j).1 hj
      have he : isEnd j.val = false := by
        have := chk_spec out_not_end j.val j.isLt
        rw [ho] at this
        cases h : isEnd j.val
        · rfl
        · rw [h] at this; cases this
      rw [he]; rfl
  show k1_pay7 (F := Ideal) v0 v22 v24 (ix2 b (0 : Fin 1)) + Ideal.log (shapeCast S128x1 _ shapeCasts_S128_S128x1 (ix2 b (0 : Fin 1))) = _
  rw [e, hm]
  exact lse_shift outS (curr x P) (fun i _ => curr_lt_top hx hP i) m

include h1 hx hP h22 h24 in
/-- The logarithm of the total weight of the end nodes. -/
theorem pay11_apply : k1_pay11 (F := Ideal) v0 v1 v22 v24 (ix2 b (0 : Fin 1)) = ev x P := by
  obtain ⟨m, hm⟩ := pay8_real h1 v22 v24 b x P hx hP h22 h24
  have e : shapeCast S128x1 (multiReduction .add [1] S128 (mulf (k1_pay9 (F := Ideal) v0 v1 v22 v24) (broadcastTo S128x512 v1 broadcasts_S1x512_S128x512)) 0x00000000#32
      reduces_S128x512_S128 (.inl rfl) rfl) shapeCasts_S128_S128x1 (ix2 b (0 : Fin 1)) = ∑ j ∈ endS, Ideal.exp (curr x P j - (m : EReal)) := by
    refine (sum_apply _ b).trans ?_
    refine Eq.trans ?_ ((sum_mask isEnd fun j => k1_pay9 (F := Ideal) v0 v1 v22 v24 (ix2 b j)).trans (Finset.sum_congr rfl fun j hj => ?_))
    · refine Finset.sum_congr rfl fun j _ => ?_
      exact congrArg (fun z : EReal => k1_pay9 (F := Ideal) v0 v1 v22 v24 (ix2 b j) * z) ((broadcastTo_1b_ab_apply _ _ b j).trans (h1 j))
    · rw [pay9_apply h1 v22 v24 b x P h22 h24 j, hm, (mem_endS j).1 hj]; rfl
  show k1_pay8 (F := Ideal) v1 v22 v24 (ix2 b (0 : Fin 1)) + Ideal.log (shapeCast S128x1 _ shapeCasts_S128_S128x1 (ix2 b (0 : Fin 1))) = _
  rw [e, hm]
  exact lse_shift endS (curr x P) (fun i _ => curr_lt_top hx hP i) m

/-- The new scratch from the new scores, the normaliser and the matrix of the edges. -/
theorem pay4_apply (v15 : FVec Ideal S512x512 .f32) (h15 : ∀ i j : Fin 512, v15 (ix2 i j) = cond (adj i.val j.val) (1 : EReal) 0)
    (v26 : FVec Ideal S128x512 .f32) (v63 : FVec Ideal S128x1 .f32) (h26 : ∀ j, v26 (ix2 b j) = curr x P j) (h63 : v63 (ix2 b (0 : Fin 1)) = lc x P)
    (j : Fin 512) : k1_pay4 (F := Ideal) v15 v26 v63 (ix2 b j) = logS (next x P j) := by
  unfold k1_pay4
  refine (same_cast _ shapeCasts_S128x512_S128x512 (ix2 b j)).trans ?_
  refine (logS_select _).trans (congrArg logS ?_)
  refine (Ideal.matmul_plain_apply none _ (shapeCast S512x512 v15 shapeCasts_S512x512_S512x512) _ b j).trans ?_
  rw [show (constant (F := Ideal) S128x512 .f32 0x00000000#32 (ix2 b j) : EReal) = 0 from ofBits_zero, zero_add]
  refine Eq.trans (Finset.sum_congr rfl fun k _ => ?_) (sum_mask (fun i => adj i j.val) fun k => expS (curr x P k - lc x P))
  rw [same_cast v15 shapeCasts_S512x512_S512x512 (ix2 k j), h15 k j]
  refine congrArg (fun z : EReal => z * cond (adj k.val j.val) (1 : EReal) 0) ?_
  refine (expS_select _).trans (congrArg expS ?_)
  exact congrArg₂ (fun s t : EReal => s - t) (h26 k) ((col_broadcast _ _ b k).trans h63)

/-- The counter of trip `n`, plus one. -/
theorem counter (n : Nat) : Scalar.addi (Scf.iv 0#32 1#32 n) 1#32 = BitVec.ofNat 32 (n + 1) := by
  show 0#32 + BitVec.ofNat 32 n * 1#32 + 1#32 = _
  rw [BitVec.zero_add, BitVec.mul_one]
  exact (BitVec.ofNat_add n 1).symm

/-- The new accumulator. -/
theorem pay3_apply (v13 : IVec S128x1 32) (acc v63 v65 : FVec Ideal S128x1 .f32) (n : Nat)
    (h63 : v63 (ix2 b (0 : Fin 1)) = lc x P) (h65 : v65 (ix2 b (0 : Fin 1)) = ev x P) :
    k1_pay3 (F := Ideal) v13 acc v63 v65 (Scalar.addi (Scf.iv 0#32 1#32 n) 1#32) (ix2 b (0 : Fin 1)) = gain (v13 (ix2 b (0 : Fin 1))) n x P (acc (ix2 b (0 : Fin 1))) := by
  rw [counter, ← gain_select, ← h63, ← h65, ← same_cast v13 shapeCasts_S128x1_S128x1 (ix2 b (0 : Fin 1))]
  rfl

end Step

end Cert.KernelIdeal.Value
end
-- ==== Proof.KernelModel.lean ====
module

public import proofs.«01_k».proof.Proof.KernelStep
public import Idealize.ShloMosaic.Lib.Pipeline.ValueKit.Tiles

@[expose] public section

noncomputable section

/-! # The kernel's column is the recursion after 64 steps, negated -/

open Idealize.ShloMosaic Idealize.ShloMosaic.ValueIdx Idealize.ShloMosaic.TcCoe Cert.Tree

namespace Cert.KernelIdeal.Value

open Cert.KernelIdeal Cert.KernelIdeal.Gen

/-- A word with the bits of `b` is the word of `b`. -/
theorem word_of_beq {x : BitVec 32} {b : Bool} (h : Nat.beq x.toNat (bitWord b) = true) : x = cond b 0x3F800000#32 0x00000000#32 := by
  refine BitVec.eq_of_toNat_eq ((Nat.eq_of_beq_eq_true h).trans ?_)
  cases b <;> rfl

/-- A 0/1 word as an extended real. -/
theorem bit_real (p : Bool) : Ideal.ofBits .f32 (cond p 0x3F800000#32 0x00000000#32) = cond p (1 : EReal) 0 := by
  cases p
  · exact ofBits_zero
  · exact ofBits_one

/-- The first column of the list of edges. -/
theorem edges_src (k : Fin 1434) : (edges (ix2 k (0 : Fin 2))).toInt = ((outF (invF k)).val : Int) := by
  have h : edges (ix2 k (0 : Fin 2)) = lit0t k.val :=
    (concatenate_pair_apply_left (s₁ := S1434x1) (s₂ := S1434x1) (t := S1434x2) 1 (listCol lit0) (listCol lit1) concatenates_S1434x1_S1434x1_S1434x2_d1
      (ix2 k (0 : Fin 2)) rfl (ix2 k (0 : Fin 1)) (fun b => by match b with | ⟨0, _⟩ => rfl | ⟨1, _⟩ => rfl)).trans
    ((Cert.Host.list_apply _ _ _ bcast_S1434_S1434x1_0 (fun _ => rfl) k).trans (congrArg lit0t (Shape.rowMajor_val_one (ix1 k))))
  have e : (lit0t k.val).toNat = (outF (invF k)).val := Nat.eq_of_beq_eq_true (chk_spec src_eq k.val k.isLt)
  rw [h, Cert.Host.toInt_small _ (e ▸ (outF (invF k)).isLt), e]

/-- The second column. -/
theorem edges_dst (k : Fin 1434) : (edges (ix2 k (1 : Fin 2))).toInt = ((inF k).val : Int) := by
  have h : edges (ix2 k (1 : Fin 2)) = lit1t k.val :=
    (concatenate_pair_apply_right (s₁ := S1434x1) (s₂ := S1434x1) (t := S1434x2) 1 (listCol lit0) (listCol lit1) concatenates_S1434x1_S1434x1_S1434x2_d1
      (ix2 k (1 : Fin 2)) rfl rfl (ix2 k (0 : Fin 1)) (fun b hb => by match b with | ⟨0, _⟩ => rfl | ⟨1, _⟩ => exact absurd rfl hb) rfl).trans
    ((Cert.Host.list_apply _ _ _ bcast_S1434_S1434x1_0 (fun _ => rfl) k).trans (congrArg lit1t (Shape.rowMajor_val_one (ix1 k))))
  have e : (lit1t k.val).toNat = (inF k).val := Nat.eq_of_beq_eq_true (chk_spec dst_eq k.val k.isLt)
  rw [h, Cert.Host.toInt_small _ (e ▸ (inF k).isLt), e]

/-- The matrix of the edges. -/
theorem matrix_apply (i j : Fin 512) : (matrix (F := Ideal)) (ix2 i j) = cond (adj i.val j.val) (1 : EReal) 0 := by
  cases h : adj i.val j.val with
  | true =>
    obtain ⟨k, rfl, rfl⟩ := (adj_iff i j).1 h
    exact (Cert.Host.scatter_set_point_hit (M := 512) (N := 512) (K := 1434) scatter_S512x512_S1434x2_S1434_n_01_01_1_wf _ _ _
      (Ideal.ofBits .f32 0x3F800000#32) (fun _ => rfl) _ _ k ⟨edges_src k, edges_dst k⟩).trans ofBits_one
  | false =>
    refine (Cert.Host.scatter_set_point_miss (M := 512) (N := 512) (K := 1434) scatter_S512x512_S1434x2_S1434_n_01_01_1_wf _ _ _ i j fun k hk => ?_).trans ofBits_zero
    rw [edges_src, edges_dst] at hk
    have : adj i.val j.val = true := (adj_iff i j).2 ⟨k, Fin.ext (Nat.cast_inj.1 hk.1), Fin.ext (Nat.cast_inj.1 hk.2)⟩
    rw [h] at this
    exact Bool.noConfusion this

/-- A row of the masks whose words are the bits of `p`. -/
theorem maskRow_apply (p : Nat → Bool) (r : Fin 8) (inb : ∀ a, (![r.val, 0] : Fin 2 → Nat) a + S1x512.size a ≤ S8x512.size a)
    (h : ∀ j, j < 512 → Nat.beq (lit2t (512 * r.val + j)).toNat (bitWord (p j)) = true) : IsMask p (maskRow (F := Ideal) r.val inb) := by
  intro j
  have e : maskRow (F := Ideal) r.val inb (ix2 (0 : Fin 1) j) = (masks (F := Ideal)) (ix2 r j) :=
    View.ld_unit_apply_of (Val := Elt Ideal) (e := .f32) (masks (F := Ideal)) ![r.val, 0] S1x512.size inb (ix2 (0 : Fin 1) j) (ix2 r j) (fun a => by
      match a with
      | ⟨0, _⟩ => rfl
      | ⟨1, _⟩ => exact (Nat.zero_add _).symm)
  refine e.trans ?_
  have e2 : (S8x512.rowMajor (ix2 r j)).val = 512 * r.val + j.val := by
    refine (Shape.rowMajor_val_two _).trans ?_
    show r.val * 512 + j.val = _
    omega
  show Ideal.ofBits .f32 (lit2t (S8x512.rowMajor (ix2 r j)).val) = _
  rw [e2]
  exact (congrArg (Ideal.ofBits .f32) (word_of_beq (h j.val j.isLt))).trans (bit_real _)

theorem isOut_row : IsMask isOut (maskRow (F := Ideal) 0 inb_S8x512_S1x512_0_0) :=
  maskRow_apply isOut 0 _ fun j hj => by
    have := chk_spec mask0 j hj
    rwa [show 512 * (0 : Fin 8).val + j = j from Nat.zero_add j]
theorem isEnd_row : IsMask isEnd (maskRow (F := Ideal) 1 inb_S8x512_S1x512_1_0) :=
  maskRow_apply isEnd 1 _ fun j hj => chk_spec mask1 j hj
theorem isStart_row : IsMask isStart (maskRow (F := Ideal) 2 inb_S8x512_S1x512_2_0) :=
  maskRow_apply isStart 2 _ fun j hj => chk_spec mask2 j hj

/-- The scratch before the first trip: the logarithms of the starting weights. -/
theorem pay1_apply (v2 : FVec Ideal S1x512 .f32) (h : IsMask isStart v2) (b : Fin 128) (j : Fin 512) :
    k1_pay1 (F := Ideal) v2 (ix2 b j) = logS (start j) := by
  unfold k1_pay1
  refine (same_cast _ shapeCasts_S128x512_S128x512 (ix2 b j)).trans ?_
  refine (broadcastTo_1b_ab_apply _ _ b j).trans ?_
  refine (same_cast _ shapeCasts_S1x512_S1x512 (ix2 (0 : Fin 1) j)).trans ?_
  show Scalar.select (FloatOps.cmpf (F := Ideal) (φ := .f32) .ogt (v2 (ix2 (0 : Fin 1) j)) (Ideal.ofBits .f32 0x00000000#32))
    (Ideal.ofBits .f32 0x00000000#32) (Ideal.ofBits .f32 0xC2800000#32) = _
  rw [h j]
  refine (mask_gt _ _ _).trans ?_
  unfold start
  cases isStart j.val
  · exact logS_zero.symm
  · exact ofBits_zero.trans logS_one.symm

/-- The emissions of row `b`, one step after another. -/
def emission (x0 : FVec Ideal S64x128x512 .f32) (b : Fin 128) (n : Nat) (j : Fin 512) : EReal :=
  if h : n < 64 then x0 (ix3 (⟨n, h⟩ : Fin 64) b j) else 0

theorem emission_lt_top {x0 : FVec Ideal S64x128x512 .f32} (h : ∀ i, x0 i < (⊤ : EReal)) (b : Fin 128) (n : Nat) (j : Fin 512) :
    emission x0 b n j < ⊤ := by
  unfold emission
  split
  · exact h _
  · exact EReal.zero_lt_top

/-- The emission block of trip `k` is page `k` of the scores. -/
theorem emit_apply (x0 : FVec Ideal S64x128x512 .f32) (k : Fin k1_t1_loop.trips) (hk : k.val < 64) (b : Fin 128) (j : Fin 512) :
    emit (F := Ideal) x0 k (ix3 (0 : Fin 1) b j) = emission x0 b k.val j := by
  unfold emission
  rw [dif_pos hk]
  exact View.ld_unit_apply_of (Val := Elt Ideal) (e := .f32) x0 (k1_off1 k) S1x128x512.size (k1_off1_inb k) (ix3 (0 : Fin 1) b j) (ix3 (⟨k.val, hk⟩ : Fin 64) b j)
    (fun a => by
      have e := congrFun (k1_off1_eq k) a
      refine Eq.trans ?_ (congrArg (fun t : Nat => t + (ix3 (0 : Fin 1) b j a : Nat)) e.symm)
      match a with
      | ⟨0, _⟩ => rfl
      | ⟨1, _⟩ => exact (Nat.zero_add _).symm
      | ⟨2, _⟩ => exact (Nat.zero_add _).symm)

/-- One trip on row `b`: the accumulator gains the step's score and the scratch holds the logarithms of the next weights. -/
theorem kstep_model (v0 v1 : FVec Ideal S1x512 .f32) (h0 : IsMask isOut v0) (h1 : IsMask isEnd v1) (v13 : IVec S128x1 32)
    (v15 : FVec Ideal S512x512 .f32) (h15 : ∀ i j : Fin 512, v15 (ix2 i j) = cond (adj i.val j.val) (1 : EReal) 0)
    (x0 : FVec Ideal S64x128x512 .f32) (hx : ∀ i, x0 i < (⊤ : EReal)) (b : Fin 128) (k : Fin k1_t1_loop.trips) (hk : k.val < 64)
    (p : FVec Ideal S128x1 .f32 × Vec Ideal S128x512 .f32) (A : EReal) (P : Fin 512 → EReal) (hP : ∀ j, P j < ⊤)
    (hA : p.1 (ix2 b (0 : Fin 1)) = A) (h22 : ∀ j, p.2 (ix2 b j) = logS (P j)) :
    (kstep (F := Ideal) v0 v1 v13 v15 x0 k p).1 (ix2 b (0 : Fin 1)) = gain (v13 (ix2 b (0 : Fin 1))) k.val (emission x0 b k.val) P A
    ∧ ∀ j, (kstep (F := Ideal) v0 v1 v13 v15 x0 k p).2 (ix2 b j) = logS (next (emission x0 b k.val) P j) := by
  have h24 : ∀ j, emit (F := Ideal) x0 k (ix3 (0 : Fin 1) b j) = emission x0 b k.val j := fun j => emit_apply x0 k hk b j
  unfold kstep
  generalize emit (F := Ideal) x0 k = v24 at h24
  have e10 := pay10_apply h0 h1 p.2 v24 b (emission x0 b k.val) P (emission_lt_top hx b k.val) hP h22 h24
  have e11 := pay11_apply (v0 := v0) h1 p.2 v24 b (emission x0 b k.val) P (emission_lt_top hx b k.val) hP h22 h24
  refine ⟨?_, fun j => ?_⟩
  · rw [← hA]
    exact pay3_apply b (emission x0 b k.val) P v13 p.1 _ _ k.val e10 e11
  · exact pay4_apply b (emission x0 b k.val) P v15 h15 _ _ (pay6_apply p.2 v24 b (emission x0 b k.val) P h22 h24) e10 j

/-- After `n` trips the accumulator is the score and the scratch the logarithms of the weights. -/
theorem kiter_model (v0 v1 : FVec Ideal S1x512 .f32) (h0 : IsMask isOut v0) (h1 : IsMask isEnd v1) (v13 : IVec S128x1 32)
    (v15 : FVec Ideal S512x512 .f32) (h15 : ∀ i j : Fin 512, v15 (ix2 i j) = cond (adj i.val j.val) (1 : EReal) 0)
    (x0 : FVec Ideal S64x128x512 .f32) (hx : ∀ i, x0 i < (⊤ : EReal)) (b : Fin 128) (p : FVec Ideal S128x1 .f32 × Vec Ideal S128x512 .f32)
    (hA : p.1 (ix2 b (0 : Fin 1)) = 0) (h22 : ∀ j, p.2 (ix2 b j) = logS (start j)) : ∀ n, n ≤ 64 →
    (kiter (F := Ideal) v0 v1 v13 v15 x0 p n).1 (ix2 b (0 : Fin 1)) = (Tree.run (v13 (ix2 b (0 : Fin 1))) (emission x0 b) n).1
    ∧ ∀ j, (kiter (F := Ideal) v0 v1 v13 v15 x0 p n).2 (ix2 b j) = logS ((Tree.run (v13 (ix2 b (0 : Fin 1))) (emission x0 b) n).2 j)
  | 0, _ => ⟨hA, h22⟩
  | n + 1, hn => by
    have ih := kiter_model v0 v1 h0 h1 v13 v15 h15 x0 hx b p hA h22 n (Nat.le_of_succ_le hn)
    have ht : n < k1_t1_loop.trips := by
      rw [show k1_t1_loop.trips = 64 from by decide +kernel]; omega
    have e : kiter (F := Ideal) v0 v1 v13 v15 x0 p (n + 1) = kstep v0 v1 v13 v15 x0 ⟨n, ht⟩ (kiter v0 v1 v13 v15 x0 p n) := dif_pos ht
    rw [e]
    exact kstep_model v0 v1 h0 h1 v13 v15 h15 x0 hx b ⟨n, ht⟩ (show n < 64 by omega) _ _ _ (run_lt_top _ (emission_lt_top hx b) n) ih.1 ih.2

/-- What the kernel returns for row `b`. -/
theorem column_apply (x0 : FVec Ideal S64x128x512 .f32) (hx : ∀ i, x0 i < (⊤ : EReal)) (tl : IVec S128 32) (b : Fin 128) :
    shapeCast S128 (column (F := Ideal) x0 tl) shapeCasts_S128x1_S128 (ix1 b) = -(Tree.run (tl (ix1 b)) (emission x0 b) 64).1 := by
  refine (col_cast _ _ b).trans ?_
  have e := (kiter_model _ _ isOut_row isEnd_row (shapeCast S128x1 tl shapeCasts_S128_S128x1) (matrix (F := Ideal)) matrix_apply x0 hx b
    (k1_pay2 (F := Ideal), k1_pay1 (F := Ideal) (maskRow 2 inb_S8x512_S1x512_2_0)) ofBits_zero (fun j => pay1_apply _ isStart_row b j) 64 le_rfl).1
  rw [show shapeCast S128x1 tl shapeCasts_S128_S128x1 (ix2 b (0 : Fin 1)) = tl (ix1 b) from shapeCast_a_a1_apply _ _ b 0] at e
  show Ideal.ofBits .f32 0x00000000#32 - _ = _
  rw [ofBits_zero, zero_sub]
  exact congrArg Neg.neg e

end Cert.KernelIdeal.Value
end
-- ==== Proof.GatherModel.lean ====
module

public import proofs.«01_k».proof.Proof.KernelValue
public import proofs.«01_k».proof.Proof.Layout
public import Idealize.ShloMosaic.Lib.Pipeline.ValueKit.Geometry
public import Idealize.ShloMosaic.Lib.Pipeline.ValueKit.Tiles
public import Idealize.ShloMosaic.Lib.Pipeline.ArrRel
public import Idealize.ShloMosaic.Lib.WordCmp

@[expose] public section

noncomputable section

/-! # The gather's body on the extended reals

A row of ones and zeros, one at the target, times the scores' rows is the scores' entries at the target. The last block's missing
row only meets a column that the body overwrites by the constant -64.
-/

open Idealize.ShloMosaic Idealize.ShloMosaic.ValueIdx Idealize.ShloMosaic.TcCoe Cert.Tree

namespace Cert.KernelIdeal.Gath

open Cert.KernelIdeal Cert.KernelIdeal.Gen Cert.KernelIdeal.Run Cert.KernelIdeal.Value

/-- A word as a class of the vocabulary. -/
def col (w : BitVec 32) : Fin 1024 := ⟨w.toNat % 1024, Nat.mod_lt _ (by decide)⟩

theorem eq_col {w : BitVec 32} (h : w.toNat < 1024) : w = BitVec.ofNat 32 (col w).val := by
  apply BitVec.eq_of_toNat_eq
  rw [BitVec.toNat_ofNat]
  show w.toNat = (w.toNat % 1024) % 2 ^ 32
  omega

/-- The constant in the column that is no node. -/
abbrev blank : EReal := Ideal.ofBits .f32 0xC2800000#32

/-- The one-hot row, an entry. -/
theorem hot (v v' : Fin 1024) : (((BitVec.zeroExtend 32 (IntOp.cmpi .eq (BitVec.ofNat 32 v'.val) (BitVec.ofNat 32 v.val))).toInt : ℝ) : EReal)
    = if v' = v then 1 else 0 := by
  have e : (BitVec.ofNat 32 v'.val == BitVec.ofNat 32 v.val) = decide (v' = v) := by
    by_cases h : v' = v
    · subst h; simp
    · have hn : BitVec.ofNat 32 v'.val ≠ BitVec.ofNat 32 v.val := fun hh => h (Fin.ext (by
        have := congrArg BitVec.toNat hh
        rw [BitVec.toNat_ofNat, BitVec.toNat_ofNat] at this
        have h1 := v.isLt
        have h2 := v'.isLt
        omega))
      simp [h, hn]
  show (((BitVec.zeroExtend 32 (BitVec.ofBool (BitVec.ofNat 32 v'.val == BitVec.ofNat 32 v.val))).toInt : ℝ) : EReal) = _
  rw [e]
  by_cases h : v' = v
  · rw [if_pos h, decide_eq_true h]
    have : (BitVec.zeroExtend 32 (BitVec.ofBool true)).toInt = 1 := by decide
    rw [this]; simp
  · rw [if_neg h, decide_eq_false h]
    have : (BitVec.zeroExtend 32 (BitVec.ofBool false)).toInt = 0 := by decide
    rw [this]; simp

/-- What one row of the body stores, at an entry. -/
theorem pay_apply (mask : IVec S64x128 1) (row : IVec S1x1x64 32) (lp : FVec Ideal S128x1x1024 .f32) (t : Fin 64) (n : Fin 128) (v : Fin 1024)
    (hrow : row (ix3 (0 : Fin 1) (0 : Fin 1) t) = BitVec.ofNat 32 v.val) :
    k0_pay2 (F := Ideal) mask (iota .tc S64x1024 32 [1] iota_S64x1024_d1_w32) row lp (ix3 t (0 : Fin 1) n)
      = Scalar.select (mask (ix2 t n)) (lp (ix3 n (0 : Fin 1) v)) blank := by
  unfold k0_pay2
  refine (shapeCast_apply _ _ (ix3 t (0 : Fin 1) n) (ix2 t n) ?_).trans ?_
  · rw [Shape.rowMajor_val_two, Shape.rowMajor_val_three]
    show t.val * 128 + n.val = (t.val * 1 + 0) * 128 + n.val
    omega
  refine congrArg (fun z : EReal => Scalar.select (mask (ix2 t n)) z blank) ?_
  refine (Ideal.matmul_transposedRhs_apply (M := 64) (K := 1024) (N := 128) none _ _ _ t n).trans ?_
  rw [show (constant (F := Ideal) S64x128 .f32 0x00000000#32 (ix2 t n) : EReal) = 0 from ofBits_zero, zero_add]
  have hl : ∀ v' : Fin 1024, (sitofp (F := Ideal) .f32 (extui 32 (cmpi .eq (iota .tc S64x1024 32 [1] iota_S64x1024_d1_w32)
      (broadcastTo S64x1024 (shapeCast S64x1 (shapeCast S64 row shapeCasts_S1x1x64_S64) shapeCasts_S64_S64x1) broadcasts_S64x1_S64x1024)) natLt_1_32)
      (ix2 t v') : EReal) = if v' = v then 1 else 0 := by
    intro v'
    have e1 : iota .tc S64x1024 32 [1] iota_S64x1024_d1_w32 (ix2 t v') = BitVec.ofNat 32 v'.val := iota_single_apply _ _ _ _ _ _
    have e2 : broadcastTo S64x1024 (shapeCast S64x1 (shapeCast S64 row shapeCasts_S1x1x64_S64) shapeCasts_S64_S64x1) broadcasts_S64x1_S64x1024 (ix2 t v')
        = BitVec.ofNat 32 v.val := by
      refine (col_broadcast _ _ t v').trans ?_
      refine (shapeCast_apply _ _ (ix2 t (0 : Fin 1)) (ix1 t) ?_).trans ?_
      · rw [Shape.rowMajor_val_two, Shape.rowMajor_val_one]
        show t.val = t.val * 1 + 0
        omega
      refine (shapeCast_apply _ _ (ix1 t) (ix3 (0 : Fin 1) (0 : Fin 1) t) ?_).trans hrow
      rw [Shape.rowMajor_val_three, Shape.rowMajor_val_one]
      show (0 * 1 + 0) * 64 + t.val = t.val
      omega
    show (((BitVec.zeroExtend 32 (IntOp.cmpi .eq (iota .tc S64x1024 32 [1] iota_S64x1024_d1_w32 (ix2 t v')) _)).toInt : ℝ) : EReal) = _
    rw [e1, e2]
    exact hot v v'
  have hr : ∀ v' : Fin 1024, shapeCast S128x1024 lp shapeCasts_S128x1x1024_S128x1024 (ix2 n v') = lp (ix3 n (0 : Fin 1) v') := by
    intro v'
    refine shapeCast_apply _ _ (ix2 n v') (ix3 n (0 : Fin 1) v') ?_
    rw [Shape.rowMajor_val_two, Shape.rowMajor_val_three]
    show (n.val * 1 + 0) * 1024 + v'.val = n.val * 1024 + v'.val
    omega
  rw [Finset.sum_eq_single v]
  · refine (congrArg₂ (fun s u : EReal => s * u) (hl v) (hr v)).trans ?_
    rw [if_pos rfl, one_mul]
  · intro v' _ hne
    refine (congrArg₂ (fun s u : EReal => s * u) (hl v') (hr v')).trans ?_
    rw [if_neg hne, zero_mul]
  · intro h; exact absurd (Finset.mem_univ _) h

/-- The mask of the body: the column is a node. -/
theorem mask_apply (i : grid0.Coords) (t : Fin 64) (n : Fin 128) :
    k0_pay3 i (ix2 t n) = BitVec.ofBool (decide ((i 0).val * 128 + n.val < 511)) := by
  have h0 : (i 0).val < 4 := (i 0).isLt
  have hn := n.isLt
  have e1 : iota .tc S64x128 32 [1] iota_S64x128_d1_w32 (ix2 t n) = BitVec.ofNat 32 n.val := iota_single_apply _ _ _ _ _ _
  show BitVec.ofBool ((BitVec.ofNat 32 (i 0).val * 128#32 + iota .tc S64x128 32 [1] iota_S64x128_d1_w32 (ix2 t n)).slt 511#32) = _
  rw [e1]
  refine congrArg BitVec.ofBool ?_
  have e2 : BitVec.ofNat 32 (i 0).val * 128#32 + BitVec.ofNat 32 n.val = BitVec.ofNat 32 ((i 0).val * 128 + n.val) := by
    rw [BitVec.ofNat_add, BitVec.ofNat_mul]
  rw [e2, BitVec.slt, BitVec.toInt_eq_toNat_of_lt (by rw [BitVec.toNat_ofNat]; omega), BitVec.toNat_ofNat, show (511#32 : BitVec 32).toInt = 511 from rfl]
  exact decide_eq_decide.2 (by omega)

/-- The gathered block, at an entry. -/
def blockAt (i : grid0.Coords) (x0 : IVec S1x8x64 32) (x1 : FVec Ideal S128x8x1024 .f32) (y : S64x8x128.Idx) : EReal :=
  if (i 0).val * 128 + (y 2).val < 511 then x1 (ix3 (y 2) (y 1) (col (x0 (ix3 (0 : Fin 1) (y 1) (y 0))))) else blank

theorem piece (i : grid0.Coords) (x0 : IVec S1x8x64 32) (x1 : FVec Ideal S128x8x1024 .f32) (hx : ∀ b t, (x0 (ix3 (0 : Fin 1) b t)).toNat < 1024)
    (k : Nat) (hk : k < 8) (h0 : ∀ a, (![0, k, 0] : Fin 3 → Nat) a + S1x1x64.size a ≤ S1x8x64.size a)
    (h1 : ∀ a, (![0, k, 0] : Fin 3 → Nat) a + S128x1x1024.size a ≤ S128x8x1024.size a)
    (h2 : ∀ a, (![0, k, 0] : Fin 3 → Nat) a + S64x1x128.size a ≤ S64x8x128.size a) (x : S64x1x128.Idx) :
    k0_pay2 (F := Ideal) (k0_pay3 i) (iota .tc S64x1024 32 [1] iota_S64x1024_d1_w32) (tgtRow (F := Ideal) x0 ![0, k, 0] h0) (lpSlab x1 ![0, k, 0] h1) x
      = blockAt i x0 x1 ((Rect.unit (s := S64x8x128) ![0, k, 0] S64x1x128.size h2).emb x) := by
  have ex : x = ix3 (x 0) (0 : Fin 1) (x 2) := by
    funext a
    match a with
    | ⟨0, _⟩ => rfl
    | ⟨1, _⟩ => exact Subsingleton.elim (α := Fin 1) _ _
    | ⟨2, _⟩ => rfl
  have ey : (Rect.unit (s := S64x8x128) ![0, k, 0] S64x1x128.size h2).emb x = ix3 (x 0) (⟨k, hk⟩ : Fin 8) (x 2) := by
    funext a
    apply Fin.ext
    rw [ValueKit.rect_emb_unit_val]
    match a with
    | ⟨0, _⟩ => exact Nat.zero_add _
    | ⟨1, _⟩ =>
      show k + (x 1).val = k
      have : (x 1).val < 1 := (x 1).isLt
      omega
    | ⟨2, _⟩ => exact Nat.zero_add _
  have er : tgtRow (F := Ideal) x0 ![0, k, 0] h0 (ix3 (0 : Fin 1) (0 : Fin 1) (x 0)) = x0 (ix3 (0 : Fin 1) (⟨k, hk⟩ : Fin 8) (x 0)) :=
    View.ld_unit_apply_of (Val := Elt Ideal) (e := .i32) x0 ![0, k, 0] S1x1x64.size h0 _ _ fun a => by
      match a with
      | ⟨0, _⟩ => rfl
      | ⟨1, _⟩ => rfl
      | ⟨2, _⟩ => exact (Nat.zero_add _).symm
  have el : ∀ v : Fin 1024, lpSlab (F := Ideal) x1 ![0, k, 0] h1 (ix3 (x 2) (0 : Fin 1) v) = x1 (ix3 (x 2) (⟨k, hk⟩ : Fin 8) v) := fun v =>
    View.ld_unit_apply_of (Val := Elt Ideal) (e := .f32) x1 ![0, k, 0] S128x1x1024.size h1 _ _ fun a => by
      match a with
      | ⟨0, _⟩ => exact (Nat.zero_add _).symm
      | ⟨1, _⟩ => rfl
      | ⟨2, _⟩ => exact (Nat.zero_add _).symm
  rw [ey]
  conv_lhs => rw [ex]
  refine (pay_apply (k0_pay3 i) _ _ (x 0) (x 2) (col (x0 (ix3 (0 : Fin 1) (⟨k, hk⟩ : Fin 8) (x 0)))) (er.trans (eq_col (hx _ _)))).trans ?_
  refine (congrArg₂ (fun (z : BitVec 1) (u : EReal) => Scalar.select z u blank) (mask_apply i (x 0) (x 2)) (el _)).trans ?_
  refine (select_ofBool _ _ _).trans ?_
  rfl

set_option maxHeartbeats 1000000 in
/-- The block that the body leaves. -/
theorem gatherBlock_apply (i : grid0.Coords) (x0 : IVec S1x8x64 32) (x1 : FVec Ideal S128x8x1024 .f32)
    (hx : ∀ b t, (x0 (ix3 (0 : Fin 1) b t)).toNat < 1024) (y : S64x8x128.Idx) : gatherBlock (F := Ideal) i x0 x1 y = blockAt i x0 x1 y := by
  unfold gatherBlock
  refine View.canon_apply_of_pieces (Val := Elt Ideal) (S := S64x8x128) (e := .f32) (blockAt i x0 x1) _ ?_ y (gatherCover (F := Ideal) i x0 x1 y)
  unfold gatherPieces
  simp only [List.forall_mem_cons]
  refine ⟨fun x => piece i x0 x1 hx 7 (by decide) _ _ _ x, fun x => piece i x0 x1 hx 6 (by decide) _ _ _ x, fun x => piece i x0 x1 hx 5 (by decide) _ _ _ x,
    fun x => piece i x0 x1 hx 4 (by decide) _ _ _ x, fun x => piece i x0 x1 hx 3 (by decide) _ _ _ x, fun x => piece i x0 x1 hx 2 (by decide) _ _ _ x,
    fun x => piece i x0 x1 hx 1 (by decide) _ _ _ x, fun x => piece i x0 x1 hx 0 (by decide) _ _ _ x, fun p hp => absurd hp List.not_mem_nil⟩

/-! ## The whole array -/

/-- The gathered array: the scores at the targets, and the constant -64 in the last column. -/
def gath (lp : FVec Ideal S511x128x1024 .f32) (tg : IVec S64x128 32) : FVec Ideal S64x128x512 .f32 := fun i =>
  if h : (i 2).val < 511 then lp (ix3 (⟨(i 2).val, h⟩ : Fin 511) (i 1) (col (tg (ix2 (i 0) (i 1))))) else blank

theorem gath_node (lp : FVec Ideal S511x128x1024 .f32) (tg : IVec S64x128 32) (i : S64x128x512.Idx) (h : (i 2).val < 511) :
    gath lp tg i = lp (ix3 (⟨(i 2).val, h⟩ : Fin 511) (i 1) (col (tg (ix2 (i 0) (i 1))))) := dif_pos h
theorem gath_blank (lp : FVec Ideal S511x128x1024 .f32) (tg : IVec S64x128 32) (i : S64x128x512.Idx) (h : ¬ (i 2).val < 511) :
    gath lp tg i = blank := dif_neg h

section Run

variable (m : (ℓ : Loc nD τ sig) → Buf (Elt Ideal) ℓ) (c : Dev nD)

theorem e0 : ∀ t : Fin cfg0.N, win0_0.index t = ![(grid0.coords t 1).val, 0, 0] := (by decide +kernel : ∀ t : Fin grid0.N, _)
theorem e1 : ∀ t : Fin cfg0.N, win0_1.index t = ![(grid0.coords t 0).val, (grid0.coords t 1).val, 0] := (by decide +kernel : ∀ t : Fin grid0.N, _)
theorem e2 : ∀ t : Fin cfg0.N, win0_2.index t = ![0, (grid0.coords t 1).val, (grid0.coords t 0).val] := (by decide +kernel : ∀ t : Fin grid0.N, _)

/-- What a fetch of the scores moves: the whole block, and one row less at the array's end. -/
theorem x1 : ∀ t : Fin cfg0.N, win0_1.xsize (grid0.coords t) = ![min 128 (511 - (grid0.coords t 0).val * 128), 8, 1024] :=
  (by decide +kernel : ∀ t : Fin grid0.N, _)

/-- The targets' block. -/
theorem tgtBlk_apply (t : Fin cfg0.N) (b : Fin 8) (k : Fin 64) (b' : Fin 128) (hb : b'.val = (grid0.coords t 1).val * 8 + b.val) :
    (tgtBlk (F := Ideal) m c t : IVec S1x8x64 32) (ix3 (0 : Fin 1) b k) = (m ((c.tc : Thread nD τ).loc main_arg1) : IVec S64x128 32) (ix2 k b') := by
  have h1 : (grid0.coords t 1).val < 16 := (grid0.coords t 1).isLt
  have hv : (V1 m c main_v1 : IVec S16x8x64 32) (ix3 (⟨(grid0.coords t 1).val, h1⟩ : Fin 16) b k)
      = (m ((c.tc : Thread nD τ).loc main_arg1) : IVec S64x128 32) (ix2 k b') := by
    refine (congrFun (V1_v1 m c) _).trans ?_
    refine (shapeCast_apply _ _ _ (ix2 b' k) ?_).trans ?_
    · rw [Shape.rowMajor_val_two, Shape.rowMajor_val_three]
      show b'.val * 64 + k.val = ((grid0.coords t 1).val * 8 + b.val) * 64 + k.val
      rw [hb]
    exact transpose_apply [1, 0] _ _ (ix2 b' k) (ix2 k b') fun a => by
      match a with
      | ⟨0, _⟩ => rfl
      | ⟨1, _⟩ => rfl
  refine Eq.trans ?_ hv
  unfold tgtBlk
  blk_ext [e0, blk0]

/-- The scores' block, at a row that the fetch moves. -/
theorem lpFill_apply (t : Fin cfg0.N) (d : FVec Ideal S128x8x1024 .f32) (n : Fin 128) (b : Fin 8) (v : Fin 1024) (n' : Fin 511) (b' : Fin 128)
    (hn : n'.val = (grid0.coords t 0).val * 128 + n.val) (hb : b'.val = (grid0.coords t 1).val * 8 + b.val) :
    (lpFill (F := Ideal) m c t d : FVec Ideal S128x8x1024 .f32) (ix3 n b v) = (m ((c.tc : Thread nD τ).loc main_arg0) : FVec Ideal S511x128x1024 .f32) (ix3 n' b' v) := by
  have h0 : n.val < min 128 (511 - (grid0.coords t 0).val * 128) := by
    have := n.isLt
    have := n'.isLt
    omega
  have hm : win0_1.moved (grid0.coords t) (ix3 n b v) = true := by
    rw [Pipeline.Window.moved_iff, x1]
    intro a
    match a with
    | ⟨0, _⟩ => exact h0
    | ⟨1, _⟩ => exact b.isLt
    | ⟨2, _⟩ => exact v.isLt
  unfold lpFill
  refine (dif_pos hm).trans ?_
  refine Eq.trans ?_ (congrFun (V1_of m c main_arg0 (by decide)) (ix3 n' b' v))
  blk_ext [e1, blk0]
  · exact hn.symm
  · exact hb.symm

/-- What the first region may have left is the scores at the targets, if these are classes. -/
theorem left_eq (x : FVec Ideal S64x128x512 .f32) (hl : Left (F := Ideal) m c x)
    (ht : ∀ (t : Fin 64) (b : Fin 128), ((m ((c.tc : Thread nD τ).loc main_arg1) : IVec S64x128 32) (ix2 t b)).toNat < 1024) :
    x = gath (m ((c.tc : Thread nD τ).loc main_arg0)) (m ((c.tc : Thread nD τ).loc main_arg1)) := by
  obtain ⟨X, hX, hA⟩ := Pipeline.RDat.ArrAt.exists_exact hl
  refine (hA (Function.update (fun _ _ _ => Classical.arbitrary _) 2 X) fun u _ _ => by rw [Function.update_self]).trans ?_
  refine Pipeline.Dat.arrAt_eq_of_covers _ 2 _ (by decide +kernel) fun t hf y => ?_
  blk_simp
  rw [Pipeline.RDat.withAfter_after, Function.update_self]
  obtain ⟨d, hd⟩ : gatherRel m c t (X t) := Pipeline.Dat.toRRel_leaves (dat := dat0 m c) (fgt := fgt0) (Rl := rel0 m c) rfl (hX t t.isLt hf)
  rw [hd]
  have h0 : (grid0.coords t 0).val < 4 := (grid0.coords t 0).isLt
  have h1 : (grid0.coords t 1).val < 16 := (grid0.coords t 1).isLt
  let k : Fin 64 := ⟨(y 0).val, (y 0).isLt⟩
  let b : Fin 8 := ⟨(y 1).val, (y 1).isLt⟩
  let n : Fin 128 := ⟨(y 2).val, (y 2).isLt⟩
  let b' : Fin 128 := ⟨(grid0.coords t 1).val * 8 + b.val, by have := b.isLt; omega⟩
  let n'' : Fin 512 := ⟨(grid0.coords t 0).val * 128 + n.val, by have := n.isLt; omega⟩
  have ey : (win0_2.blk t).view.emb y = ix3 k b' n'' := by
    blk_ext [e2]
    · rfl
    · rfl
    · rfl
  rw [ey]
  refine (gatherBlock_apply (grid0.coords t) (tgtBlk m c t) (lpFill m c t d) (fun b1 k1 => ?_) y).trans ?_
  · rw [tgtBlk_apply m c t b1 k1 ⟨(grid0.coords t 1).val * 8 + b1.val, by have := b1.isLt; omega⟩ rfl]
    exact ht _ _
  unfold blockAt
  by_cases h : (grid0.coords t 0).val * 128 + n.val < 511
  · refine (if_pos h).trans (Eq.trans ?_ (gath_node _ _ (ix3 k b' n'') h).symm)
    refine (lpFill_apply m c t d n b _ ⟨(grid0.coords t 0).val * 128 + n.val, h⟩ b' rfl rfl).trans ?_
    exact congrArg (fun w : BitVec 32 => (m ((c.tc : Thread nD τ).loc main_arg0) : FVec Ideal S511x128x1024 .f32) (ix3 (⟨(grid0.coords t 0).val * 128 + n.val, h⟩ : Fin 511) b' (col w))) (tgtBlk_apply m c t b k b' rfl)
  · exact (if_neg h).trans (gath_blank _ _ (ix3 k b' n'') h).symm

end Run

end Cert.KernelIdeal.Gath
end
-- ==== Proof.RefStep.lean ====
module

public import proofs.«01_k».proof.Proof.Layout
public import proofs.«01_k».proof.Proof.HostRead
public import proofs.«01_k».proof.Proof.Gen.ReferenceIdeal.Run
public import Idealize.ShloMosaic.Lib.DynamicIndex
public import Idealize.ShloMosaic.Lib.IdealHost

@[expose] public section

noncomputable section

/-! # The reference's trip on the extended reals is a step of the recursion -/

open Idealize.ShloMosaic Idealize.ShloMosaic.ValueIdx Idealize.ShloMosaic.TcCoe Cert.Tree

namespace Cert.ReferenceIdeal.Model

open Cert.ReferenceIdeal Cert.ReferenceIdeal.Gen Cert.ReferenceIdeal.Value Cert.Host

/-- A column of the 511 nodes among the 512 positions. -/
def up (j : Fin 511) : Fin 512 := ⟨j.val, by omega⟩

/-- A vector as a column, on the host. -/
theorem column_apply {α : Type} (h : S128.BroadcastsInDim S128x1 (![0] : Fin 1 → Fin 2)) (x : S128.Idx → α) (b : Fin 128) :
    broadcastInDim S128x1 (![0] : Fin 1 → Fin 2) h x (ix2 b (0 : Fin 1)) = x (ix1 b) :=
  broadcastInDim_apply _ h x (ix2 b (0 : Fin 1)) (ix1 b) fun a => by match a with | ⟨0, _⟩ => rfl

/-- A column repeated, on the host. -/
theorem repeat_apply {α : Type} {N : Nat} (h : S128x1.BroadcastsInDim ⟨2, ![128, N]⟩ (![0, 1] : Fin 2 → Fin 2)) (x : S128x1.Idx → α)
    (b : Fin 128) (k : Fin N) : broadcastInDim ⟨2, ![128, N]⟩ (![0, 1] : Fin 2 → Fin 2) h x (ix2 b k) = x (ix2 b (0 : Fin 1)) :=
  broadcastInDim_apply _ h x (ix2 b k) (ix2 b (0 : Fin 1)) fun a => by match a with | ⟨0, _⟩ => rfl | ⟨1, _⟩ => rfl

/-- A value replaced by zero unless it is finite is a real number. -/
theorem finite_real (M : EReal) : ∃ m : ℝ, Scalar.select (FloatOps.cmpf (F := Ideal) (φ := .f32) .olt (max M (-M) : EReal) (Ideal.ofBits .f32 0x7F800000#32)) M
    (Ideal.ofBits .f32 0x00000000#32) = (m : EReal) := by
  rw [ofBits_top, ofBits_zero]
  have e : Scalar.select (FloatOps.cmpf (F := Ideal) (φ := .f32) .olt (max M (-M) : EReal) (⊤ : EReal)) M 0 = if max M (-M) < ⊤ then M else 0 :=
    select_ofBool (max M (-M) < ⊤) M 0
  rw [e]
  split
  · next h =>
    induction M with
    | bot => simp at h
    | coe r => exact ⟨r, rfl⟩
    | top => simp at h
  · exact ⟨0, EReal.coe_zero.symm⟩

/-- The reference's stable logarithm of a sum of exponentials, whatever real number it is shifted by. -/
theorem host_lse {N : Nat} (h' : (⟨2, ![128, N]⟩ : Shape).ReducesTo [1] S128) (h : (⟨2, ![128, N]⟩ : Shape).Reduces [1] S128)
    (hl : ∀ (b : Fin 128) (k : Fin N), h.lift (ix1 b) k = ix2 b k)
    (hb1 : S128.BroadcastsInDim S128x1 (![0] : Fin 1 → Fin 2)) (hb2 : S128x1.BroadcastsInDim ⟨2, ![128, N]⟩ (![0, 1] : Fin 2 → Fin 2))
    (hu : 0 < S_.numel) (v : FVec Ideal ⟨2, ![128, N]⟩ .f32) (s : FVec Ideal S128x1 .f32) (b : Fin 128) (hv : ∀ k, v (ix2 b k) < (⊤ : EReal))
    (m : ℝ) (hs : s (ix2 b (0 : Fin 1)) = (m : EReal)) :
    addf (Host.log (Host.absf (broadcastInDim S128x1 (![0] : Fin 1 → Fin 2) hb1 (Host.reduceAdd (Host.exp (subf v
      (broadcastInDim ⟨2, ![128, N]⟩ (![0, 1] : Fin 2 → Fin 2) hb2 s))) (constant S_ .f32 0x00000000#32) h' hu)))) s (ix2 b (0 : Fin 1))
      = lse Finset.univ fun k : Fin N => v (ix2 b k) := by
  have e : broadcastInDim S128x1 (![0] : Fin 1 → Fin 2) hb1 (Host.reduceAdd (Host.exp (subf v
      (broadcastInDim ⟨2, ![128, N]⟩ (![0, 1] : Fin 2 → Fin 2) hb2 s))) (constant S_ .f32 0x00000000#32) h' hu) (ix2 b (0 : Fin 1))
      = ∑ k : Fin N, Ideal.exp (v (ix2 b k) - (m : EReal)) := by
    refine (column_apply hb1 _ b).trans ?_
    refine (hostReduceAdd_apply _ _ h' hu (ix1 b)).trans ?_
    refine (Ideal.hostReduceAdd_single h' h _ _ (ix1 b)).trans ?_
    rw [show (constant (F := Ideal) S_ .f32 0x00000000#32 (Shape.Idx.first hu) : EReal) = 0 from ofBits_zero, zero_add]
    refine Finset.sum_congr rfl fun k _ => ?_
    rw [show h.lift (ix1 b) k = ix2 b k from hl b k]
    exact congrArg (fun t : EReal => Ideal.exp (v (ix2 b k) - t)) ((repeat_apply hb2 s b k).trans hs)
  refine (congrArg₂ (fun t u : EReal => Ideal.log (max t (-t)) + u) e hs).trans ?_
  show Ideal.log (max _ (-_)) + (m : EReal) = _
  rw [abs_sum_exp Finset.univ (fun k => v (ix2 b k) - (m : EReal)) fun k _ => sub_coe_lt_top (hv k) m, add_comm]
  exact lse_shift Finset.univ (fun k => v (ix2 b k)) (fun k _ => hv k) m

/-- What every trip leaves as it was: the scores, the four lists with their masks, the target lengths. -/
structure Carried (V : Valuation τ sig (Elt Ideal)) (elp : FVec Ideal S64x128x511 .f32) (tl : IVec S128 32) : Prop where
  scores : V (Proc.devRef .tc main_v27_0) = elp
  outs : V (Proc.devRef .tc main_v27_1) = fun i => lit1 (S502.rowMajor i)
  outsMask : V (Proc.devRef .tc main_v27_2) = constantI S502 1 0#1
  invs : V (Proc.devRef .tc main_v27_3) = fun i => lit2 (S1434.rowMajor i)
  invsMask : V (Proc.devRef .tc main_v27_4) = constantI S1434 1 0#1
  lengths : V (Proc.devRef .tc main_v27_5) = tl
  ends : V (Proc.devRef .tc main_v27_6) = fun i => lit3 (S9.rowMajor i)
  endsMask : V (Proc.devRef .tc main_v27_7) = constantI S9 1 0#1
  ins : V (Proc.devRef .tc main_v27_8) = fun i => lit4 (S1434.rowMajor i)
  insMask : V (Proc.devRef .tc main_v27_9) = constantI S1434 1 0#1

theorem Carried.step {V : Valuation τ sig (Elt Ideal)} {elp : FVec Ideal S64x128x511 .f32} {tl : IVec S128 32} (h : Carried V elp tl) :
    Carried (STEP V) elp tl where
  scores := (STEP_main_v27_0 V).trans h.scores
  outs := (STEP_main_v27_1 V).trans h.outs
  outsMask := (STEP_main_v27_2 V).trans h.outsMask
  invs := (STEP_main_v27_3 V).trans h.invs
  invsMask := (STEP_main_v27_4 V).trans h.invsMask
  lengths := (STEP_main_v27_5 V).trans h.lengths
  ends := (STEP_main_v27_6 V).trans h.ends
  endsMask := (STEP_main_v27_7 V).trans h.endsMask
  ins := (STEP_main_v27_8 V).trans h.ins
  insMask := (STEP_main_v27_9 V).trans h.insMask

section Step

variable (V : Valuation τ sig (Elt Ideal)) (elp : FVec Ideal S64x128x511 .f32) (tl : IVec S128 32) (hV : Carried V elp tl)
  (n : Nat) (hn : n < 64) (h11 : V (Proc.devRef .tc main_v27_11) = fun _ => BitVec.ofNat 32 n)
  (b : Fin 128) (x P : Fin 512 → EReal) (hx : ∀ j, x j < ⊤) (hP : ∀ j, P j < ⊤)
  (hxe : ∀ j : Fin 511, elp (ix3 (⟨n, hn⟩ : Fin 64) b j) = x (up j))
  (h13 : ∀ j : Fin 511, (V (Proc.devRef .tc main_v27_13) : FVec Ideal S128x511 .f32) (ix2 b j) = P (up j))

include hV h11 hxe h13 in
/-- The new scores. -/
theorem v29_apply (j : Fin 511) : (res_main_while0b_v47 V : FVec Ideal S128x511 .f32) (ix2 b j) = curr x P (up j) := by
  have e17 : (res_main_while0b_v35 V : IVec S_ 32) = constantI S_ 32 (BitVec.ofNat 32 n) := h11
  unfold res_main_while0b_v47 res_main_while0b_v31
  rw [e17, hV.scores]
  have hoff : S64x128x511.Slices (![n, 0, 0] : Fin 3 → Nat) S1x128x511 := ⟨rfl, fun a => by
    match a with
    | ⟨0, _⟩ => show n + 1 ≤ 64; omega
    | ⟨1, _⟩ => exact le_rfl
    | ⟨2, _⟩ => exact le_rfl⟩
  rw [Host.dynamicSlice_eq_extractStridedSlice S1x128x511 elp _ (![n, 0, 0] : Fin 3 → Nat) sliceFits_S64x128x511_S1x128x511 hoff (fun a => by
    match a with
    | ⟨0, _⟩ => exact toInt_wrap_ofNat (s := S_) (d := constantI S_ 32 64#32) (i := Shape.Idx.first h_S_) n (by omega)
    | ⟨1, _⟩ => exact toInt_wrap_ofNat (s := S_) (d := constantI S_ 32 128#32) (i := Shape.Idx.first h_S_) 0 (by decide)
    | ⟨2, _⟩ => exact toInt_wrap_ofNat (s := S_) (d := constantI S_ 32 511#32) (i := Shape.Idx.first h_S_) 0 (by decide))]
  have e2 : shapeCast S128x511 (extractStridedSlice S1x128x511 (![n, 0, 0] : Fin 3 → Nat) elp hoff) shapeCasts_S1x128x511_S128x511 (ix2 b j) = x (up j) := by
    refine (shapeCast_1ab_ab_apply _ _ b j).trans ?_
    refine Eq.trans (congrArg elp (funext fun a => Fin.ext ?_)) (hxe j)
    match a with
    | ⟨0, _⟩ => rfl
    | ⟨1, _⟩ => exact Nat.zero_add _
    | ⟨2, _⟩ => exact Nat.zero_add _
  refine congrArg₂ (fun s t : EReal => s + t) ?_ e2
  rw [← h13 j]
  exact logS_select _

include hV h11 hxe h13 in
/-- The scores of the inner nodes. -/
theorem v34_apply (k : Fin 502) : (res_main_while0b_v52 V : FVec Ideal S128x502 .f32) (ix2 b k) = curr x P (outF k) := by
  unfold res_main_while0b_v52
  refine (Cert.Host.gather_col_apply (B := 128) (N := 511) (K := 502) gather_S128x511_S502x1_S128x502_0_1_n_n_1_1_1281_wf _ _ b k ⟨outN k.val, outN_lt k⟩ ?_).trans
    (v29_apply V elp tl hV n hn h11 b x P hxe h13 ⟨outN k.val, outN_lt k⟩)
  rw [hV.outs, hV.outsMask]
  refine (congrArg BitVec.toInt (list_apply _ _ _ bcast_S502_S502x1_0 (fun _ => rfl) k)).trans ?_
  have e : (lit1 (S502.rowMajor (ix1 k)) : BitVec 32) = lit1t k.val := congrArg lit1t (Shape.rowMajor_val_one (ix1 k))
  exact (congrArg BitVec.toInt e).trans (toInt_small _ (Nat.lt_trans (outN_lt k) (by decide)))

include hV h11 hxe h13 in
/-- The scores of the end nodes. -/
theorem v69_apply (k : Fin 9) : (res_main_while0b_v87 V : FVec Ideal S128x9 .f32) (ix2 b k) = curr x P (endF k) := by
  unfold res_main_while0b_v87
  refine (Cert.Host.gather_col_apply (B := 128) (N := 511) (K := 9) gather_S128x511_S9x1_S128x9_0_1_n_n_1_1_1281_wf _ _ b k ⟨endN k.val, endN_lt k⟩ ?_).trans
    (v29_apply V elp tl hV n hn h11 b x P hxe h13 ⟨endN k.val, endN_lt k⟩)
  rw [hV.ends, hV.endsMask]
  refine (congrArg BitVec.toInt (list_apply _ _ _ bcast_S9_S9x1_0 (fun _ => rfl) k)).trans ?_
  have e0 : S9.rowMajor (ix1 k) = k := Fin.ext (Shape.rowMajor_val_one (ix1 k))
  have e : (lit3 (S9.rowMajor (ix1 k))).toNat = endN k.val := by
    rw [e0]
    match k with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl
  exact (toInt_small _ (e ▸ Nat.lt_trans (endN_lt k) (by decide))).trans (congrArg Nat.cast e)

include hV h11 hx hP hxe h13 in
/-- The logarithm of the total weight of the inner nodes. -/
theorem v48_apply : (res_main_while0b_v66 V : FVec Ideal S128x1 .f32) (ix2 b (0 : Fin 1)) = lc x P := by
  obtain ⟨m, hm⟩ := finite_real ((res_main_while0b_v54 V : FVec Ideal S128x1 .f32) (ix2 b (0 : Fin 1)))
  have h34 := v34_apply V elp tl hV n hn h11 b x P hxe h13
  unfold res_main_while0b_v66
  refine (host_lse reducesTo_S128x502_S128_d1 (by decide) (fun b k => by funext a; match a with | ⟨0, _⟩ => rfl | ⟨1, _⟩ => rfl)
    bcast_S128_S128x1_0 bcast_S128x1_S128x502_0_1 h_S_ (res_main_while0b_v52 V) (res_main_while0b_v58 V) b
    (fun k => by rw [h34 k]; exact curr_lt_top hx hP _) m hm).trans ?_
  unfold lc lse
  rw [sum_out]
  exact congrArg Ideal.log (Finset.sum_congr rfl fun k _ => congrArg Ideal.exp (h34 k))

/-- The logarithm of the total weight of the end nodes, as a column. -/
def endLse : FVec Ideal S128x1 .f32 :=
  addf (Host.log (Host.absf (broadcastInDim S128x1 ![0] bcast_S128_S128x1_0 (Host.reduceAdd (Host.exp (subf (res_main_while0b_v87 V)
    (broadcastInDim S128x9 ![0, 1] bcast_S128x1_S128x9_0_1 (res_main_while0b_v93 V)))) (constant S_ .f32 0x00000000#32) reducesTo_S128x9_S128_d1 h_S_))))
    (res_main_while0b_v93 V)

include hV h11 hx hP hxe h13 in
theorem endLse_apply : endLse V (ix2 b (0 : Fin 1)) = ev x P := by
  obtain ⟨m, hm⟩ := finite_real ((res_main_while0b_v89 V : FVec Ideal S128x1 .f32) (ix2 b (0 : Fin 1)))
  have h69 := v69_apply V elp tl hV n hn h11 b x P hxe h13
  unfold endLse
  refine (host_lse reducesTo_S128x9_S128_d1 (by decide) (fun b k => by funext a; match a with | ⟨0, _⟩ => rfl | ⟨1, _⟩ => rfl)
    bcast_S128_S128x1_0 bcast_S128x1_S128x9_0_1 h_S_ (res_main_while0b_v87 V) (res_main_while0b_v93 V) b
    (fun k => by rw [h69 k]; exact curr_lt_top hx hP _) m hm).trans ?_
  unfold ev lse
  rw [sum_end]
  exact congrArg Ideal.log (Finset.sum_congr rfl fun k _ => congrArg Ideal.exp (h69 k))

include hV h11 hx hP hxe h13 in
/-- The next weights. -/
theorem step13_apply (j : Fin 511) : (step_main_v27_13 V : FVec Ideal S128x511 .f32) (ix2 b j) = next x P (up j) := by
  have h34 := v34_apply V elp tl hV n hn h11 b x P hxe h13
  have h48 := v48_apply V elp tl hV n hn h11 b x P hx hP hxe h13
  unfold step_main_v27_13
  refine (Cert.Host.scatter_add_col (B := 128) (N := 511) (K := 1434) scatter_S128x511_S1434x1_S128x1434_0_1_1_1_wf _ _ _ b j).trans ?_
  rw [show (broadcastInDim S128x511 ![] bcast_S_S128x511 (constant (F := Ideal) S_ .f32 0x00000000#32) (ix2 b j) : EReal) = 0 from ofBits_zero, zero_add]
  unfold next
  rw [← sum_adj (fun i => expS (curr x P i - lc x P)) (up j)]
  refine Finset.sum_congr rfl fun k _ => ?_
  refine if_congr ?_ ?_ rfl
  · rw [hV.ins, hV.insMask]
    rw [show broadcastInDim S1434x1 ![0] bcast_S1434_S1434x1_0 (select (constantI S1434 1 0#1) _ fun i => lit4 (S1434.rowMajor i)) (ix2 k (0 : Fin 1))
      = lit4t k.val from (list_apply _ _ _ bcast_S1434_S1434x1_0 (fun _ => rfl) k).trans (congrArg lit4t (Shape.rowMajor_val_one (ix1 k)))]
    rw [toInt_small (lit4t k.val) (Nat.lt_trans (inN_lt k) (by decide))]
    exact Nat.cast_inj
  · refine (Cert.Host.gather_col_apply (B := 128) (N := 502) (K := 1434) gather_S128x502_S1434x1_S128x1434_0_1_n_n_1_1_1281_wf _ _ b k (invF k) ?_).trans ?_
    · rw [hV.invs, hV.invsMask]
      refine (congrArg BitVec.toInt (list_apply _ _ _ bcast_S1434_S1434x1_0 (fun _ => rfl) k)).trans ?_
      have e : (lit2 (S1434.rowMajor (ix1 k)) : BitVec 32) = lit2t k.val := congrArg lit2t (Shape.rowMajor_val_one (ix1 k))
      exact (congrArg BitVec.toInt e).trans (toInt_small _ (Nat.lt_trans (invN_lt k) (by decide)))
    · have e50 : (res_main_while0b_v68 V : FVec Ideal S128x502 .f32) (ix2 b (invF k)) = curr x P (outF (invF k)) - lc x P :=
        congrArg₂ (fun s t : EReal => s - t) (h34 (invF k)) ((repeat_apply _ _ b (invF k)).trans h48)
      rw [← e50]
      exact expS_select _

/-- The reference's last step adds no mass within the sequence, which the bound on the lengths says as well. -/
theorem mid_word (n : Nat) (hn : n < 64) (t : BitVec 32) (ht : t.sle 64#32 = true) :
    IntOp.andi (IntOp.cmpi .slt (BitVec.ofNat 32 (n + 1)) t) (IntOp.cmpi .ne (IntOp.cmpi .slt (BitVec.ofNat 32 n) 63#32) 0#1)
      = IntOp.cmpi .slt (BitVec.ofNat 32 (n + 1)) t := by
  by_cases h : n = 63
  · subst h
    have : (BitVec.ofNat 32 (63 + 1)).slt t = false := by
      simp only [BitVec.slt, BitVec.sle, decide_eq_true_eq, decide_eq_false_iff_not, not_lt] at ht ⊢
      exact ht
    show BitVec.ofBool ((BitVec.ofNat 32 (63 + 1)).slt t) &&& _ = BitVec.ofBool ((BitVec.ofNat 32 (63 + 1)).slt t)
    rw [this]
    rfl
  · have : (BitVec.ofNat 32 n).slt 63#32 = true := by
      simp only [BitVec.slt, decide_eq_true_eq]
      rw [toInt_ofNat_of_lt (by omega), show (63#32 : BitVec 32).toInt = 63 from rfl]
      omega
    show _ &&& BitVec.ofBool (BitVec.ofBool ((BitVec.ofNat 32 n).slt 63#32) != 0#1) = _
    rw [this]
    show BitVec.ofBool ((BitVec.ofNat 32 (n + 1)).slt t) &&& _ = BitVec.ofBool ((BitVec.ofNat 32 (n + 1)).slt t)
    cases (BitVec.ofNat 32 (n + 1)).slt t <;> rfl

include hV h11 hx hP hxe h13 in
/-- The score after the step. -/
theorem step12_apply (ht : (tl (ix1 b)).sle 64#32 = true) :
    (step_main_v27_12 V : FVec Ideal S128 .f32) (ix1 b) = gain (tl (ix1 b)) n x P ((V (Proc.devRef .tc main_v27_12) : FVec Ideal S128 .f32) (ix1 b)) := by
  have h48 := v48_apply V elp tl hV n hn h11 b x P hx hP hxe h13
  have hend := endLse_apply V elp tl hV n hn h11 b x P hx hP hxe h13
  have e1 : shapeCast S128 (endLse V) shapeCasts_S128x1_S128 (ix1 b) = ev x P := (col_cast _ _ b).trans hend
  have e2 : shapeCast S128 (res_main_while0b_v66 V : FVec Ideal S128x1 .f32) shapeCasts_S128x1_S128 (ix1 b) = lc x P := (col_cast _ _ b).trans h48
  have ec : (BitVec.ofNat 32 n + 1#32 : BitVec 32) = BitVec.ofNat 32 (n + 1) := (BitVec.ofNat_add n 1).symm
  unfold step_main_v27_12
  rw [h11, hV.lengths]
  show ((show EReal from (V (Proc.devRef .tc main_v27_12) : FVec Ideal S128 .f32) (ix1 b))
      + Scalar.select (IntOp.cmpi .eq (BitVec.ofNat 32 n + 1#32) (tl (ix1 b))) (shapeCast S128 (endLse V) shapeCasts_S128x1_S128 (ix1 b)) (Ideal.ofBits .f32 0x00000000#32))
      + Scalar.select (IntOp.andi (IntOp.cmpi .slt (BitVec.ofNat 32 n + 1#32) (tl (ix1 b))) (IntOp.cmpi .ne (IntOp.cmpi .slt (BitVec.ofNat 32 n) 63#32) 0#1))
        (shapeCast S128 (res_main_while0b_v66 V : FVec Ideal S128x1 .f32) shapeCasts_S128x1_S128 (ix1 b)) (Ideal.ofBits .f32 0x00000000#32) = _
  rw [e1, e2, ec, mid_word n hn _ ht, ← gain_select]
  rw [show IntOp.cmpi .eq (BitVec.ofNat 32 (n + 1)) (tl (ix1 b)) = IntOp.cmpi .eq (tl (ix1 b)) (BitVec.ofNat 32 (n + 1)) from
    congrArg BitVec.ofBool Bool.beq_comm]
  rfl

end Step

end Cert.ReferenceIdeal.Model
end
-- ==== Proof.RefGather.lean ====
module

public import proofs.«01_k».proof.Proof.HostRead
public import proofs.«01_k».proof.Proof.GatherModel
public import proofs.«01_k».proof.Proof.Gen.ReferenceIdeal
public import proofs.«01_k».proof.ReferenceIdeal

@[expose] public section

noncomputable section

/-! # The reference's gather of the scores at the targets, read at an entry -/

namespace Cert.Host

open Idealize.ShloMosaic Idealize.ShloMosaic.ValueIdx

variable {α : Type} {A B V K w : Nat}

/-- `x[:, rows, cols]`, for lists of rows and columns of shape (B, K). -/
def pairDims (A B V K : Nat) (wf : GatherDims.WF ⟨3, ![A, B, V]⟩ ⟨3, ![B, K, 2]⟩ ⟨3, ![A, B, K]⟩ [0] [1, 2] [] [1, 2] [] 2 ![A, 1, 1]) :
    GatherDims ⟨3, ![A, B, V]⟩ ⟨3, ![B, K, 2]⟩ ⟨3, ![A, B, K]⟩ where
  offsetDims := [0]
  collapsedSliceDims := [1, 2]
  operandBatchingDims := []
  startIndicesBatchingDims := []
  startIndexMap := [1, 2]
  indexVectorDim := 2
  sliceSizes := ![A, 1, 1]
  wf := wf

/-- `x[:, rows, cols]` at an entry, when the row and the column are in range. -/
theorem gather_pair_apply (wf : GatherDims.WF ⟨3, ![A, B, V]⟩ ⟨3, ![B, K, 2]⟩ ⟨3, ![A, B, K]⟩ [0] [1, 2] [] [1, 2] [] 2 ![A, 1, 1])
    (x : (⟨3, ![A, B, V]⟩ : Shape).Idx → α) (idx : IVec ⟨3, ![B, K, 2]⟩ w) (n : Fin A) (b : Fin B) (k : Fin K) (r : Fin B) (v : Fin V)
    (hr : (idx (ix3 b k (0 : Fin 2))).toInt = (r.val : Int)) (hv : (idx (ix3 b k (1 : Fin 2))).toInt = (v.val : Int)) :
    Host.gather (pairDims A B V K wf) x idx (ix3 n b k) = x (ix3 n r v) := by
  have m1 : (1 : Fin 3) ∈ [(1 : Fin 3), 2] := by decide
  have m2 : (2 : Fin 3) ∈ [(1 : Fin 3), 2] := by decide
  unfold Host.gather
  congr 1
  funext a
  refine Fin.ext ?_
  show (pairDims A B V K wf).start (ix3 n b k) idx a + (pairDims A B V K wf).batchCoord (ix3 n b k) a + (pairDims A B V K wf).offCoord (ix3 n b k) a = _
  rw [GatherDims.batchCoord_eq_zero _ _ _ List.not_mem_nil, Nat.add_zero]
  match a with
  | ⟨0, _⟩ =>
    have h0 : (pairDims A B V K wf).start (ix3 n b k) idx (0 : Fin 3) = 0 := by
      unfold GatherDims.start
      exact dif_neg (by show (0 : Fin 3) ∉ [(1 : Fin 3), 2]; decide)
    show (pairDims A B V K wf).start (ix3 n b k) idx (0 : Fin 3) + _ = _
    rw [h0, Nat.zero_add]
    rfl
  | ⟨1, _⟩ =>
    have h1 : (pairDims A B V K wf).offCoord (ix3 n b k) (1 : Fin 3) = 0 :=
      GatherDims.offCoord_eq_zero _ _ _ (fun h => ((GatherDims.mem_sKept _ _).mp h).1 m1)
    show (pairDims A B V K wf).start (ix3 n b k) idx (1 : Fin 3) + (pairDims A B V K wf).offCoord (ix3 n b k) (1 : Fin 3) = _
    rw [h1, Nat.add_zero]
    unfold GatherDims.start
    rw [dif_pos (show (1 : Fin 3) ∈ (pairDims A B V K wf).startIndexMap from m1)]
    have hsi : (pairDims A B V K wf).siIdx (ix3 n b k) ⟨List.idxOf (1 : Fin 3) (pairDims A B V K wf).startIndexMap,
        List.idxOf_lt_length_iff.2 m1⟩ = ix3 b k (0 : Fin 2) := by
      funext z; refine Fin.ext ?_
      match z with
      | ⟨0, _⟩ => rfl
      | ⟨1, _⟩ => rfl
      | ⟨2, _⟩ => rfl
    rw [hsi, hr]
    show min (Int.toNat (r.val : Int)) (B - 1) = r.val
    have := r.isLt
    rw [Int.toNat_natCast]; omega
  | ⟨2, _⟩ =>
    have h1 : (pairDims A B V K wf).offCoord (ix3 n b k) (2 : Fin 3) = 0 :=
      GatherDims.offCoord_eq_zero _ _ _ (fun h => ((GatherDims.mem_sKept _ _).mp h).1 m2)
    show (pairDims A B V K wf).start (ix3 n b k) idx (2 : Fin 3) + (pairDims A B V K wf).offCoord (ix3 n b k) (2 : Fin 3) = _
    rw [h1, Nat.add_zero]
    unfold GatherDims.start
    rw [dif_pos (show (2 : Fin 3) ∈ (pairDims A B V K wf).startIndexMap from m2)]
    have hsi : (pairDims A B V K wf).siIdx (ix3 n b k) ⟨List.idxOf (2 : Fin 3) (pairDims A B V K wf).startIndexMap,
        List.idxOf_lt_length_iff.2 m2⟩ = ix3 b k (1 : Fin 2) := by
      funext z; refine Fin.ext ?_
      match z with
      | ⟨0, _⟩ => rfl
      | ⟨1, _⟩ => rfl
      | ⟨2, _⟩ => rfl
    rw [hsi, hv]
    show min (Int.toNat (v.val : Int)) (V - 1) = v.val
    have := v.isLt
    rw [Int.toNat_natCast]; omega

end Cert.Host

namespace Cert.ReferenceIdeal.Model

open Idealize.ShloMosaic Idealize.ShloMosaic.ValueIdx Cert.ReferenceIdeal Cert.ReferenceIdeal.Gen Cert.Host
open Cert.KernelIdeal.Gath (gath col)

/-- The rows of the gather: the batch's own numbers, not wrapped. -/
def rows : IVec S128x1 32 :=
  select (cmpi .slt (broadcastInDim S128x1 ![0] bcast_S128_S128x1_0 (iotaInDim S128 32 0)) (broadcastInDim S128x1 ![] bcast_S_S128x1 (constantI S_ 32 0#32)))
    (addi (broadcastInDim S128x1 ![0] bcast_S128_S128x1_0 (iotaInDim S128 32 0)) (broadcastInDim S128x1 ![] bcast_S_S128x1 (constantI S_ 32 128#32)))
    (broadcastInDim S128x1 ![0] bcast_S128_S128x1_0 (iotaInDim S128 32 0))

/-- The columns of the gather: the targets, wrapped if negative. -/
def cols (tg : IVec S64x128 32) : IVec S128x64 32 :=
  select (cmpi .slt (transpose S128x64 [1, 0] tg transposes_S64x128_S128x64_1_0) (broadcastInDim S128x64 ![] bcast_S_S128x64 (constantI S_ 32 0#32)))
    (addi (transpose S128x64 [1, 0] tg transposes_S64x128_S128x64_1_0) (broadcastInDim S128x64 ![] bcast_S_S128x64 (constantI S_ 32 1024#32)))
    (transpose S128x64 [1, 0] tg transposes_S64x128_S128x64_1_0)

/-- The rows and columns of the gather. -/
def places (tg : IVec S64x128 32) : IVec S128x64x2 32 :=
  concatenate S128x64x2 2 [⟨S128x64x1, broadcastInDim S128x64x1 ![0, 1] bcast_S128x64_S128x64x1_0_1 (broadcastInDim S128x64 ![0, 1] bcast_S128x1_S128x64_0_1 rows)⟩,
    ⟨S128x64x1, broadcastInDim S128x64x1 ![0, 1] bcast_S128x64_S128x64x1_0_1 (cols tg)⟩] concatenates_S128x64x1_S128x64x1_S128x64x2_d2

/-- The scores of the targets' classes, by time, batch and node. -/
def scores (lp : FVec Ideal S511x128x1024 .f32) (tg : IVec S64x128 32) : FVec Ideal S64x128x511 .f32 :=
  transpose S64x128x511 [2, 1, 0] (Host.gather gather_S511x128x1024_S128x64x2_S511x128x64_0_12_n_n_12_2_51111 lp (places tg)) transposes_S511x128x64_S64x128x511_2_1_0

theorem nonneg_not_slt {x : BitVec 32} (h : x.toNat < 2147483648) : IntOp.cmpi .slt x 0#32 = 0#1 := by
  show BitVec.ofBool (x.slt 0#32) = 0#1
  have : x.slt 0#32 = false := by
    rw [BitVec.slt, BitVec.toInt_eq_toNat_of_lt (by omega), show (0#32 : BitVec 32).toInt = 0 from rfl]
    exact decide_eq_false (by omega)
  rw [this]
  rfl

theorem rows_apply (b : Fin 128) : rows (ix2 b (0 : Fin 1)) = BitVec.ofNat 32 b.val := by
  have e : broadcastInDim S128x1 ![0] bcast_S128_S128x1_0 (iotaInDim S128 32 0) (ix2 b (0 : Fin 1)) = BitVec.ofNat 32 b.val :=
    broadcastInDim_apply _ bcast_S128_S128x1_0 _ (ix2 b (0 : Fin 1)) (ix1 b) fun a => by
      match a with
      | ⟨0, _⟩ => rfl
  unfold rows
  show Scalar.select (IntOp.cmpi .slt (broadcastInDim S128x1 ![0] bcast_S128_S128x1_0 (iotaInDim S128 32 0) (ix2 b (0 : Fin 1))) 0#32) _ _ = _
  rw [e, nonneg_not_slt (by rw [BitVec.toNat_ofNat]; have := b.isLt; omega)]
  exact e

theorem cols_apply (tg : IVec S64x128 32) (b : Fin 128) (t : Fin 64) (h : (tg (ix2 t b)).toNat < 1024) : cols tg (ix2 b t) = tg (ix2 t b) := by
  have e : transpose S128x64 [1, 0] tg transposes_S64x128_S128x64_1_0 (ix2 b t) = tg (ix2 t b) :=
    transpose_apply [1, 0] _ _ (ix2 b t) (ix2 t b) fun a => by
      match a with
      | ⟨0, _⟩ => rfl
      | ⟨1, _⟩ => rfl
  unfold cols
  show Scalar.select (IntOp.cmpi .slt (transpose S128x64 [1, 0] tg transposes_S64x128_S128x64_1_0 (ix2 b t)) 0#32) _ _ = _
  rw [e, nonneg_not_slt (by omega)]
  rfl

/-- The reference's scores are the kernel's gathered ones. -/
theorem scores_apply (lp : FVec Ideal S511x128x1024 .f32) (tg : IVec S64x128 32) (ht : ∀ (t : Fin 64) (b : Fin 128), (tg (ix2 t b)).toNat < 1024)
    (t : Fin 64) (b : Fin 128) (j : Fin 511) :
    scores lp tg (ix3 t b j) = lp (ix3 j b (col (tg (ix2 t b)))) := by
  unfold scores
  refine (transpose_apply [2, 1, 0] _ _ (ix3 t b j) (ix3 j b t) fun a => ?_).trans ?_
  · match a with
    | ⟨0, _⟩ => rfl
    | ⟨1, _⟩ => rfl
    | ⟨2, _⟩ => rfl
  refine gather_pair_apply (A := 511) (B := 128) (V := 1024) (K := 64) gather_S511x128x1024_S128x64x2_S511x128x64_0_12_n_n_12_2_51111_wf lp (places tg) j b t b
    (col (tg (ix2 t b))) ?_ ?_
  · have e : places tg (ix3 b t (0 : Fin 2)) = BitVec.ofNat 32 b.val := by
      unfold places
      refine (concatenate_pair_apply_left (s₁ := S128x64x1) (s₂ := S128x64x1) (t := S128x64x2) 2 _ _ concatenates_S128x64x1_S128x64x1_S128x64x2_d2
        (ix3 b t (0 : Fin 2)) rfl (ix3 b t (0 : Fin 1)) (fun a => by match a with | ⟨0, _⟩ => rfl | ⟨1, _⟩ => rfl | ⟨2, _⟩ => rfl)).trans ?_
      refine (broadcastInDim_apply _ bcast_S128x64_S128x64x1_0_1 _ (ix3 b t (0 : Fin 1)) (ix2 b t) fun a => by
        match a with | ⟨0, _⟩ => rfl | ⟨1, _⟩ => rfl).trans ?_
      refine (broadcastInDim_apply _ bcast_S128x1_S128x64_0_1 _ (ix2 b t) (ix2 b (0 : Fin 1)) fun a => by
        match a with | ⟨0, _⟩ => rfl | ⟨1, _⟩ => rfl).trans (rows_apply b)
    rw [e, BitVec.toInt_eq_toNat_of_lt (by rw [BitVec.toNat_ofNat]; have := b.isLt; omega), BitVec.toNat_ofNat]
    have := b.isLt
    omega
  · have e : places tg (ix3 b t (1 : Fin 2)) = tg (ix2 t b) := by
      unfold places
      refine (concatenate_pair_apply_right (s₁ := S128x64x1) (s₂ := S128x64x1) (t := S128x64x2) 2 _ _ concatenates_S128x64x1_S128x64x1_S128x64x2_d2
        (ix3 b t (1 : Fin 2)) rfl rfl (ix3 b t (0 : Fin 1))
        (fun a ha => by match a with | ⟨0, _⟩ => rfl | ⟨1, _⟩ => rfl | ⟨2, _⟩ => exact absurd rfl ha) rfl).trans ?_
      refine (broadcastInDim_apply _ bcast_S128x64_S128x64x1_0_1 _ (ix3 b t (0 : Fin 1)) (ix2 b t) fun a => by
        match a with | ⟨0, _⟩ => rfl | ⟨1, _⟩ => rfl).trans (cols_apply tg b t (ht t b))
    have h := ht t b
    rw [e, BitVec.toInt_eq_toNat_of_lt (by omega)]
    show ((tg (ix2 t b)).toNat : Int) = (((tg (ix2 t b)).toNat % 1024 : Nat) : Int)
    rw [Nat.mod_eq_of_lt h]

end Cert.ReferenceIdeal.Model
end
-- ==== Proof.RefModel.lean ====
module

public import proofs.«01_k».proof.Proof.RefStep
public import proofs.«01_k».proof.Proof.KernelModel
public import proofs.«01_k».proof.Proof.RefGather

@[expose] public section

noncomputable section

/-! # The reference's result on the extended reals: 64 steps of the recursion -/

open Idealize.ShloMosaic Idealize.ShloMosaic.ValueIdx Idealize.ShloMosaic.TcCoe Idealize.ShloMosaic.StableHlo Cert.Tree

namespace Cert.ReferenceIdeal.Model

open Cert.ReferenceIdeal Cert.ReferenceIdeal.Gen Cert.ReferenceIdeal.Value Cert.Host

variable (m : (ℓ : Loc nD τ sig) → Buf (Elt Ideal) ℓ) (c : Dev nD)

/-- What the loop carries unchanged holds at its entry. -/
theorem entry_carried : Carried (entryContents preI m c) (scores (m ((c.tc : Thread nD τ).loc main_arg0)) (m ((c.tc : Thread nD τ).loc main_arg1))) (m ((c.tc : Thread nD τ).loc main_arg2)) where
  scores := by simp only [entryContents, afterL_cons, afterL_nil]; after_reads_simp; rfl
  outs := by simp only [entryContents, afterL_cons, afterL_nil]; after_reads_simp; rfl
  outsMask := by simp only [entryContents, afterL_cons, afterL_nil]; after_reads_simp; rfl
  invs := by simp only [entryContents, afterL_cons, afterL_nil]; after_reads_simp; rfl
  invsMask := by simp only [entryContents, afterL_cons, afterL_nil]; after_reads_simp; rfl
  lengths := by simp only [entryContents, afterL_cons, afterL_nil]; after_reads_simp; rfl
  ends := by simp only [entryContents, afterL_cons, afterL_nil]; after_reads_simp; rfl
  endsMask := by simp only [entryContents, afterL_cons, afterL_nil]; after_reads_simp; rfl
  ins := by simp only [entryContents, afterL_cons, afterL_nil]; after_reads_simp; rfl
  insMask := by simp only [entryContents, afterL_cons, afterL_nil]; after_reads_simp; rfl

/-- The step number is 0 at the entry. -/
theorem entry_counter : entryContents preI m c (Proc.devRef .tc main_v27_11) = fun _ => BitVec.ofNat 32 0 := by
  simp only [entryContents, afterL_cons, afterL_nil]; after_reads_simp; rfl

/-- The score is 0 at the entry. -/
theorem entry_acc : entryContents preI m c (Proc.devRef .tc main_v27_12) = broadcastInDim S128 ![] bcast_S_S128 (constant (F := Ideal) S_ .f32 0x00000000#32) := by
  simp only [entryContents, afterL_cons, afterL_nil]; after_reads_simp; rfl

/-- The weights at the entry: ones scattered to the start nodes. -/
theorem entry_prev : entryContents preI m c (Proc.devRef .tc main_v27_13) =
    Host.scatter scatter_S128x511_S9x1_S128x9_0_1_1_1 (fun _ b => b) (broadcastInDim S128x511 ![] bcast_S_S128x511 (constant (F := Ideal) S_ .f32 0x00000000#32))
      (broadcastInDim S9x1 ![0] bcast_S9_S9x1_0 (select (constantI S9 1 0#1) (addi (fun i => lit0 (S9.rowMajor i)) (broadcastInDim S9 ![] bcast_S_S9 (constantI S_ 32 511#32))) (fun i => lit0 (S9.rowMajor i))))
      (broadcastInDim S128x9 ![] bcast_S_S128x9 (constant (F := Ideal) S_ .f32 0x3F800000#32)) := by
  simp only [entryContents, afterL_cons, afterL_nil]; after_reads_simp; exact id_eq _

theorem start_index (k : Fin 9) : (broadcastInDim S9x1 ![0] bcast_S9_S9x1_0 (select (constantI S9 1 0#1) (addi (fun i => lit0 (S9.rowMajor i))
    (broadcastInDim S9 ![] bcast_S_S9 (constantI S_ 32 511#32))) (fun i => lit0 (S9.rowMajor i))) (ix2 k (0 : Fin 1))).toInt = (startN k.val : Int) := by
  refine (congrArg BitVec.toInt (list_apply _ _ _ bcast_S9_S9x1_0 (fun _ => rfl) k)).trans ?_
  have e0 : S9.rowMajor (ix1 k) = k := Fin.ext (Shape.rowMajor_val_one (ix1 k))
  have e : (lit0 (S9.rowMajor (ix1 k))).toNat = startN k.val := by
    rw [e0]
    match k with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl
  exact (toInt_small _ (e ▸ Nat.lt_trans (startN_lt k) (by decide))).trans (congrArg Nat.cast e)

/-- The weights at the entry: 1 at the start nodes, 0 elsewhere. -/
theorem entry_prev_apply (b : Fin 128) (j : Fin 511) :
    (entryContents preI m c (Proc.devRef .tc main_v27_13) : FVec Ideal S128x511 .f32) (ix2 b j) = start (up j) := by
  rw [entry_prev]
  unfold start
  by_cases h : isStart (up j).val = true
  · obtain ⟨k, hk⟩ := (isStart_iff _).1 h
    rw [h]
    refine (Cert.Host.scatter_set_col_hit (B := 128) (N := 511) (K := 9) scatter_S128x511_S9x1_S128x9_0_1_1_1_wf _ _ _ (Ideal.ofBits .f32 0x3F800000#32) (fun _ => rfl) b j k ?_).trans ofBits_one
    exact (start_index k).trans (congrArg Nat.cast hk)
  · rw [Bool.not_eq_true] at h
    rw [h]
    refine (Cert.Host.scatter_set_col_miss (B := 128) (N := 511) (K := 9) scatter_S128x511_S9x1_S128x9_0_1_1_1_wf _ _ _ b j fun k hk => ?_).trans ofBits_zero
    rw [start_index k] at hk
    have : isStart (up j).val = true := (isStart_iff _).2 ⟨k, Nat.cast_inj.1 hk⟩
    rw [h] at this
    exact Bool.noConfusion this

open Cert.KernelIdeal.Gath (gath gath_node gath_blank blank)

/-- The constant -64 is below plus infinity. -/
theorem blank_lt_top : blank < (⊤ : EReal) := by
  have h : ∃ r : ℝ, blank = (r : EReal) := by
    unfold blank; simp [Ideal.ofBits, Ideal.ieee]
    exact ⟨_, rfl⟩
  obtain ⟨r, hr⟩ := h
  rw [hr]
  exact EReal.coe_lt_top r

/-- The gathered scores are below plus infinity if the given ones are. -/
theorem gath_lt_top (lp : FVec Ideal S511x128x1024 .f32) (tg : IVec S64x128 32) (hx : ∀ i, lp i < (⊤ : EReal)) (i : Cert.KernelIdeal.S64x128x512.Idx) :
    gath lp tg i < (⊤ : EReal) := by
  by_cases h : (i 2).val < 511
  · rw [gath_node lp tg i h]; exact hx _
  · rw [gath_blank lp tg i h]; exact blank_lt_top

variable (lp : FVec Ideal Cert.KernelIdeal.S511x128x1024 .f32) (tg : IVec Cert.KernelIdeal.S64x128 32) (t0 : IVec Cert.KernelIdeal.S128 32)
  (hm0 : m ((c.tc : Thread nD τ).loc main_arg0) = lp) (hm1 : m ((c.tc : Thread nD τ).loc main_arg1) = tg) (hm2 : m ((c.tc : Thread nD τ).loc main_arg2) = t0)
  (hx : ∀ i, lp i < (⊤ : EReal)) (hg : ∀ (t : Fin 64) (b : Fin 128), (tg (ix2 t b)).toNat < 1024) (ht : ∀ b : Fin 128, (t0 (ix1 b)).sle 64#32 = true)

include hm0 hm1 hm2 hx hg ht in
/-- After `n` trips the reference holds the recursion's score and weights. -/
theorem after_trips : ∀ n ≤ 64,
    Carried (STEP^[n] (entryContents preI m c)) (scores lp tg) t0
    ∧ (STEP^[n] (entryContents preI m c) (Proc.devRef .tc main_v27_11) = fun _ => BitVec.ofNat 32 n)
    ∧ (∀ b : Fin 128, (STEP^[n] (entryContents preI m c) (Proc.devRef .tc main_v27_12) : FVec Ideal S128 .f32) (ix1 b)
        = (run (t0 (ix1 b)) (Cert.KernelIdeal.Value.emission (gath lp tg) b) n).1)
    ∧ (∀ (b : Fin 128) (j : Fin 511), (STEP^[n] (entryContents preI m c) (Proc.devRef .tc main_v27_13) : FVec Ideal S128x511 .f32) (ix2 b j)
        = (run (t0 (ix1 b)) (Cert.KernelIdeal.Value.emission (gath lp tg) b) n).2 (up j)) := by
  intro n
  induction n with
  | zero =>
    intro _
    refine ⟨by rw [← hm0, ← hm1, ← hm2]; exact entry_carried m c, entry_counter m c, fun b => ?_, fun b j => entry_prev_apply m c b j⟩
    show (entryContents preI m c (Proc.devRef .tc main_v27_12) : FVec Ideal S128 .f32) (ix1 b) = _
    rw [entry_acc]
    exact ofBits_zero
  | succ n ih =>
    intro hn'
    have hn : n < 64 := hn'
    obtain ⟨h1, h2, h3, h4⟩ := ih (le_of_lt hn)
    rw [Function.iterate_succ_apply']
    generalize STEP^[n] (entryContents preI m c) = V at h1 h2 h3 h4 ⊢
    have hxe : ∀ (b : Fin 128) (j : Fin 511), scores lp tg (ix3 (⟨n, hn⟩ : Fin 64) b j)
        = Cert.KernelIdeal.Value.emission (gath lp tg) b n (up j) := fun b j => by
      refine (scores_apply lp tg hg ⟨n, hn⟩ b j).trans ?_
      unfold Cert.KernelIdeal.Value.emission
      rw [dif_pos hn]
      exact (gath_node lp tg (ix3 (⟨n, hn⟩ : Fin 64) b (up j)) j.isLt).symm
    have hX := fun b n => Cert.KernelIdeal.Value.emission_lt_top (x0 := gath lp tg) (gath_lt_top lp tg hx) b n
    refine ⟨h1.step, ?_, fun b => ?_, fun b j => ?_⟩
    · refine (STEP_main_v27_11 V).trans ?_
      unfold step_main_v27_11
      rw [h2]
      exact funext fun _ => (BitVec.ofNat_add n 1).symm
    · refine (congrFun (STEP_main_v27_12 V) (ix1 b)).trans ?_
      refine (step12_apply V _ _ h1 n hn h2 b _ _ (hX b n) (run_lt_top _ (hX b) n) (hxe b) (h4 b) (ht b)).trans ?_
      rw [h3 b]
      rfl
    · refine (congrFun (STEP_main_v27_13 V) (ix2 b j)).trans ?_
      exact step13_apply V _ _ h1 n hn h2 b _ _ (hX b n) (run_lt_top _ (hX b) n) (hxe b) (h4 b) j

include hm0 hm1 hm2 hx hg ht in
/-- The reference's result. -/
theorem out_apply (b : Fin 128) :
    (out_main_v28 (STEP^[64] (entryContents preI m c)) : FVec Ideal S128 .f32) (ix1 b)
      = -(run (t0 (ix1 b)) (Cert.KernelIdeal.Value.emission (gath lp tg) b) 64).1 := by
  obtain ⟨-, -, h3, -⟩ := after_trips m c lp tg t0 hm0 hm1 hm2 hx hg ht 64 le_rfl
  unfold out_main_v28
  exact congrArg (fun t : EReal => -t) (h3 b)

end Cert.ReferenceIdeal.Model
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_inputs_in_range
public import proofs.«01_k».proof.Proof.KernelRun
public import proofs.«01_k».proof.Proof.KernelIdealRun
public import proofs.«01_k».proof.Proof.KernelModel
public import proofs.«01_k».proof.Proof.GatherModel
public import proofs.«01_k».proof.Proof.RefModel
public import Idealize.ShloMosaic.Lib.Claim
public import Idealize.ShloMosaic.Lib.Quiescent
public import Idealize.ShloMosaic.Adequacy
public import Idealize.ShloMosaic.Init

@[expose] public section

noncomputable section

/-! # The claim: the kernel computes the path recursion's negated score, as the reference does -/

namespace Cert.Proof

open Idealize.ShloMosaic Idealize.ShloMosaic.ValueIdx Idealize.SL.Sem

section Pre

variable {x : FVec Ideal Cert.KernelIdeal.S511x128x1024 .f32} {g : IVec Cert.KernelIdeal.S64x128 32} {t : IVec Cert.KernelIdeal.S128 32}

/-- The precondition at an entry of the scores: it is not plus infinity. -/
theorem score_lt_top (h : (Cert.Pre_inputs_in_range.fn (F := Ideal) x g t).1 = fun _ => 1#1) (i : Cert.KernelIdeal.S511x128x1024.Idx) : x i < (⊤ : EReal) := by
  have e : BitVec.ofBool (decide (x i < Ideal.ofBits .f32 0x7F800000#32)) = 1#1 := congrFun h i
  rw [Cert.Tree.ofBits_top] at e
  by_contra hn
  rw [decide_eq_false hn] at e
  exact absurd e (by decide)

/-- The precondition at a target: it is a class of the vocabulary. -/
theorem target_lt (h : (Cert.Pre_inputs_in_range.fn (F := Ideal) x g t).2.1 = fun _ => 1#1) (k : Fin 64) (b : Fin 128) : (g (ix2 k b)).toNat < 1024 := by
  have e : BitVec.ofBool ((0#32).sle (g (ix2 k b))) &&& BitVec.ofBool ((g (ix2 k b)).slt 1024#32) = 1#1 := congrFun h (ix2 k b)
  have e' : (0#32).sle (g (ix2 k b)) = true ∧ (g (ix2 k b)).slt 1024#32 = true := by
    cases h1 : (0#32).sle (g (ix2 k b)) <;> cases h2 : (g (ix2 k b)).slt 1024#32 <;> rw [h1, h2] at e
    · exact absurd e (by decide)
    · exact absurd e (by decide)
    · exact absurd e (by decide)
    · exact ⟨rfl, rfl⟩
  have h1 : (0 : Int) ≤ (g (ix2 k b)).toInt := of_decide_eq_true e'.1
  have h2 : (g (ix2 k b)).toInt < 1024 := of_decide_eq_true e'.2
  rw [BitVec.toInt_eq_toNat_cond] at h1 h2
  have := (g (ix2 k b)).isLt
  split at h1 <;> omega

/-- The precondition at a target length: it is at most 64. -/
theorem length_le (h : (Cert.Pre_inputs_in_range.fn (F := Ideal) x g t).2.2 = fun _ => 1#1) (b : Fin 128) : (t (ix1 b)).sle 64#32 = true := by
  have e : BitVec.ofBool ((t (ix1 b)).sle 64#32) = 1#1 := congrFun h (ix1 b)
  cases hs : (t (ix1 b)).sle 64#32 with
  | true => rfl
  | false => rw [hs] at e; exact absurd e (by decide)

end Pre

/-- The reference runs, its arguments end unchanged, and no semaphore is left raised: it has none. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m g)

/-- Both programs, from equal arguments that satisfy the precondition, end with the recursion's negated score. -/
theorem equal_results : Cert.algebraic_KernelIdeal_ReferenceIdeal_pre_inputs_in_range
    (hKernelIdeal := Cert.KernelIdeal.Gen.facts) (hReferenceIdeal := Cert.ReferenceIdeal.Gen.facts) (hPre_inputs_in_range := Cert.Pre_inputs_in_range.Gen.facts) := by
  intro m g m' g' hpre hargs
  refine ⟨fun c => shapeCast Cert.KernelIdeal.S128 (Cert.KernelIdeal.Value.column
      (Cert.KernelIdeal.Gath.gath (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))) Cert.KernelIdeal.Gen.shapeCasts_S128x1_S128,
    (θ_run _ _ _).mono (fun r h c => ?_) (Cert.KernelIdeal.Run.run_whole m g), (θ_run _ _ _).mono (fun r h c => ⟨?_, (h c).2⟩) (Cert.ReferenceIdeal.Value.run m' g')⟩
  · obtain ⟨x, hl, hb⟩ := h.1 c
    have hx := Cert.KernelIdeal.Gath.left_eq m c x hl (target_lt (hpre c).2.1)
    refine ⟨?_,
      (hb _ (Cert.KernelIdeal.Run.mem_uc Cert.KernelIdeal.main_arg0 (by decide))).trans (Cert.KernelIdeal.Run.W5_arg m x c Cert.KernelIdeal.main_arg0 (by decide) (by decide) (by decide) (by decide) (by decide)),
      (hb _ (Cert.KernelIdeal.Run.mem_uc Cert.KernelIdeal.main_arg1 (by decide))).trans (Cert.KernelIdeal.Run.W5_arg m x c Cert.KernelIdeal.main_arg1 (by decide) (by decide) (by decide) (by decide) (by decide)),
      (hb _ (Cert.KernelIdeal.Run.mem_uc Cert.KernelIdeal.main_arg2 (by decide))).trans (Cert.KernelIdeal.Run.W5_arg m x c Cert.KernelIdeal.main_arg2 (by decide) (by decide) (by decide) (by decide) (by decide))⟩
    refine (hb _ (Cert.KernelIdeal.Run.mem_uc Cert.KernelIdeal.main_v17 (by decide))).trans ((Cert.KernelIdeal.Value.W5_v17 m x c).trans ?_)
    rw [hx]
  · refine (h c).1.trans (funext fun i => ?_)
    rw [eq_ix1 i]
    refine (Cert.ReferenceIdeal.Model.out_apply m' c _ _ _ (hargs c).1 (hargs c).2.1 (hargs c).2.2 (score_lt_top (hpre c).1) (target_lt (hpre c).2.1) (length_le (hpre c).2.2) (i 0)).trans ?_
    exact (Cert.KernelIdeal.Value.column_apply _ (Cert.ReferenceIdeal.Model.gath_lt_top _ _ (score_lt_top (hpre c).1)) _ (i 0)).symm

theorem claim : Cert.Claim := ⟨Cert.Kernel.Gen.facts, Cert.KernelIdeal.Gen.facts, Cert.ReferenceIdeal.Gen.facts, Cert.Pre_inputs_in_range.Gen.facts,
  fun m ρ _ => Cert.Kernel.Run.frame m ρ, fun m ρ _ => Cert.KernelIdeal.Run.frame m ρ, fun m ρ _ => Cert.KernelIdeal.Run.frame m ρ,
  fun m ρ _ => reference_quiescent m ρ, fun m ρ _ => reference_quiescent m ρ, trivial, equal_results⟩

end Cert.Proof

end
